-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_codes [hPre_finite_codes : Cert.Pre_finite_codes.Facts] (m : (ℓ : Loc Cert.KernelIdeal.nD Cert.KernelIdeal.τ Cert.KernelIdeal.sig) → Buf (Elt Ideal) ℓ) : Prop :=
  ∀ c : Dev Cert.KernelIdeal.nD,
    (Cert.Pre_finite_codes.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_codes [hPre_finite_codes : Cert.Pre_finite_codes.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_codes.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_codes [hKernelIdeal : Cert.KernelIdeal.Facts] [hPre_finite_codes : Cert.Pre_finite_codes.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_codes m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_codes [hReferenceIdeal : Cert.ReferenceIdeal.Facts] [hPre_finite_codes : Cert.Pre_finite_codes.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_codes m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite_codes [hKernelIdeal : Cert.KernelIdeal.Facts] [hReferenceIdeal : Cert.ReferenceIdeal.Facts] [hPre_finite_codes : Cert.Pre_finite_codes.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_codes m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v26)) (v1 : (c : Dev Cert.KernelIdeal.nD) → Buf (Elt Ideal) ((c.tc : Thread Cert.KernelIdeal.nD Cert.KernelIdeal.τ).loc Cert.KernelIdeal.main_v23)) (v2 : (c : Dev Cert.KernelIdeal.nD) → Buf (Elt Ideal) ((c.tc : Thread Cert.KernelIdeal.nD Cert.KernelIdeal.τ).loc Cert.KernelIdeal.main_v24)) (v3 : (c : Dev Cert.KernelIdeal.nD) → Buf (Elt Ideal) ((c.tc : Thread Cert.KernelIdeal.nD Cert.KernelIdeal.τ).loc Cert.KernelIdeal.main_v15)) (v4 : (c : Dev Cert.KernelIdeal.nD) → Buf (Elt Ideal) ((c.tc : Thread Cert.KernelIdeal.nD Cert.KernelIdeal.τ).loc Cert.KernelIdeal.main_v42)) (v5 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_v23) = v1 c
          ∧ r.2.mem ((c.tc : Thread Cert.KernelIdeal.nD Cert.KernelIdeal.τ).loc Cert.KernelIdeal.main_v24) = v2 c
          ∧ r.2.mem ((c.tc : Thread Cert.KernelIdeal.nD Cert.KernelIdeal.τ).loc Cert.KernelIdeal.main_v15) = v3 c
          ∧ r.2.mem ((c.tc : Thread Cert.KernelIdeal.nD Cert.KernelIdeal.τ).loc Cert.KernelIdeal.main_v42) = v4 c
          ∧ r.2.mem ((c.tc : Thread Cert.KernelIdeal.nD Cert.KernelIdeal.τ).loc Cert.KernelIdeal.main_v52) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_v23) = v1 c
          ∧ r.2.mem ((c.tc : Thread Cert.ReferenceIdeal.nD Cert.ReferenceIdeal.τ).loc Cert.ReferenceIdeal.main_v28) = v2 c
          ∧ r.2.mem ((c.tc : Thread Cert.ReferenceIdeal.nD Cert.ReferenceIdeal.τ).loc Cert.ReferenceIdeal.main_v57) = v3 c
          ∧ r.2.mem ((c.tc : Thread Cert.ReferenceIdeal.nD Cert.ReferenceIdeal.τ).loc Cert.ReferenceIdeal.main_v46) = v4 c
          ∧ r.2.mem ((c.tc : Thread Cert.ReferenceIdeal.nD Cert.ReferenceIdeal.τ).loc Cert.ReferenceIdeal.main_v56) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_codes : Cert.Pre_finite_codes.Facts),
    quiescent_Kernel (hKernel := hKernel)
    ∧ quiescent_KernelIdeal (hKernelIdeal := hKernelIdeal)
    ∧ quiescent_KernelIdeal_pre_finite_codes (hKernelIdeal := hKernelIdeal) (hPre_finite_codes := hPre_finite_codes)
    ∧ quiescent_ReferenceIdeal (hReferenceIdeal := hReferenceIdeal)
    ∧ quiescent_ReferenceIdeal_pre_finite_codes (hReferenceIdeal := hReferenceIdeal) (hPre_finite_codes := hPre_finite_codes)
    ∧ preserves_Kernel_KernelIdeal
    ∧ algebraic_KernelIdeal_ReferenceIdeal_pre_finite_codes (hKernelIdeal := hKernelIdeal) (hReferenceIdeal := hReferenceIdeal) (hPre_finite_codes := hPre_finite_codes)
-- ==== Pre_finite_codes.lean ====
abbrev S16x256x32x32 : Shape := ⟨4, ![16, 256, 32, 32]⟩
abbrev S8192x256 : Shape := ⟨2, ![8192, 256]⟩
abbrev S_ : Shape := ⟨0, ![]⟩

class Facts : Prop where
  bcast_S_S8192x256 : S_.BroadcastsInDim S8192x256 (![] : Fin 0 → Fin S8192x256.rank)

variable [Facts]

def fn {F : FTy → Type} [FloatOps F] (main_arg0 : FVec F S16x256x32x32 .f32) (main_arg1 : FVec F S8192x256 .f32) : IVec S8192x256 1 :=
  let main_v0 : FVec F S8192x256 .f32 := Host.absf main_arg1
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  main_v2
-- ==== Kernel.lean ====
abbrev S16x256x32x32 : Shape := ⟨4, ![16, 256, 32, 32]⟩
abbrev S8192x256 : Shape := ⟨2, ![8192, 256]⟩
abbrev S_ : Shape := ⟨0, ![]⟩
abbrev S16x256x1024 : Shape := ⟨3, ![16, 256, 1024]⟩
abbrev S16x32x32 : Shape := ⟨3, ![16, 32, 32]⟩
abbrev S16x1x1024 : Shape := ⟨3, ![16, 1, 1024]⟩
abbrev S8192 : Shape := ⟨1, ![8192]⟩
abbrev S8192x1 : Shape := ⟨2, ![8192, 1]⟩
abbrev S1x256x1024 : Shape := ⟨3, ![1, 256, 1024]⟩
abbrev S1x1x1024 : Shape := ⟨3, ![1, 1, 1024]⟩
abbrev S256x1024 : Shape := ⟨2, ![256, 1024]⟩
abbrev S1x1024 : Shape := ⟨2, ![1, 1024]⟩
abbrev S1024x1 : Shape := ⟨2, ![1024, 1]⟩
abbrev S1024x256 : Shape := ⟨2, ![1024, 256]⟩
abbrev S1024x1024 : Shape := ⟨2, ![1024, 1024]⟩
abbrev S1024 : Shape := ⟨1, ![1024]⟩
abbrev S16384 : Shape := ⟨1, ![16384]⟩
abbrev S16384x1 : Shape := ⟨2, ![16384, 1]⟩
abbrev S1 : Shape := ⟨1, ![1]⟩
abbrev S1x1 : Shape := ⟨2, ![1, 1]⟩
abbrev S16384x256 : Shape := ⟨2, ![16384, 256]⟩
abbrev S16x32x32x256 : Shape := ⟨4, ![16, 32, 32, 256]⟩

abbrev nBuf : Space → Nat
  | .hbm => 96
  | .vmem => 9
  | .smem => 0
  | _ => 0

abbrev bufTy : (tb : Table) → Fin (tcTables nBuf tb) → BufTy
  | .hbm, ⟨0, _⟩ => ⟨S16x256x32x32, .f32⟩
  | .hbm, ⟨1, _⟩ => ⟨S8192x256, .f32⟩
  | .hbm, ⟨2, _⟩ => ⟨S_, .f32⟩
  | .hbm, ⟨3, _⟩ => ⟨S16x256x32x32, .f32⟩
  | .hbm, ⟨4, _⟩ => ⟨S16x256x32x32, .f32⟩
  | .hbm, ⟨5, _⟩ => ⟨S16x256x32x32, .bf16⟩
  | .hbm, ⟨6, _⟩ => ⟨S16x256x1024, .bf16⟩
  | .hbm, ⟨7, _⟩ => ⟨S16x256x32x32, .f32⟩
  | .hbm, ⟨8, _⟩ => ⟨S_, .f32⟩
  | .hbm, ⟨9, _⟩ => ⟨S16x32x32, .f32⟩
  | .hbm, ⟨10, _⟩ => ⟨S16x1x1024, .f32⟩
  | .hbm, ⟨11, _⟩ => ⟨S8192x256, .bf16⟩
  | .hbm, ⟨12, _⟩ => ⟨S8192x256, .f32⟩
  | .hbm, ⟨13, _⟩ => ⟨S8192x256, .f32⟩
  | .hbm, ⟨14, _⟩ => ⟨S8192x256, .bf16⟩
  | .hbm, ⟨15, _⟩ => ⟨S8192x256, .f32⟩
  | .hbm, ⟨16, _⟩ => ⟨S_, .f32⟩
  | .hbm, ⟨17, _⟩ => ⟨S8192, .f32⟩
  | .hbm, ⟨18, _⟩ => ⟨S8192x1, .f32⟩
  | .hbm, ⟨19, _⟩ => ⟨S16x1x1024, .i32⟩
  | .hbm, ⟨20, _⟩ => ⟨S16x32x32, .i32⟩
  | .hbm, ⟨21, _⟩ => ⟨S16384, .i32⟩
  | .hbm, ⟨22, _⟩ => ⟨S_, .i32⟩
  | .hbm, ⟨23, _⟩ => ⟨S16384, .i32⟩
  | .hbm, ⟨24, _⟩ => ⟨S16384, .i1⟩
  | .hbm, ⟨25, _⟩ => ⟨S_, .i32⟩
  | .hbm, ⟨26, _⟩ => ⟨S16384, .i32⟩
  | .hbm, ⟨27, _⟩ => ⟨S16384, .i32⟩
  | .hbm, ⟨28, _⟩ => ⟨S16384, .i32⟩
  | .hbm, ⟨29, _⟩ => ⟨S16384x1, .i32⟩
  | .hbm, ⟨30, _⟩ => ⟨S1, .i32⟩
  | .hbm, ⟨31, _⟩ => ⟨S_, .i32⟩
  | .hbm, ⟨32, _⟩ => ⟨S16384x1, .i32⟩
  | .hbm, ⟨33, _⟩ => ⟨S16384x1, .i1⟩
  | .hbm, ⟨34, _⟩ => ⟨S1x1, .i32⟩
  | .hbm, ⟨35, _⟩ => ⟨S16384x1, .i32⟩
  | .hbm, ⟨36, _⟩ => ⟨S16384x1, .i1⟩
  | .hbm, ⟨37, _⟩ => ⟨S16384x1, .i1⟩
  | .hbm, ⟨38, _⟩ => ⟨S_, .i1⟩
  | .hbm, ⟨39, _⟩ => ⟨S16384, .i1⟩
  | .hbm, ⟨40, _⟩ => ⟨S16384x256, .f32⟩
  | .hbm, ⟨41, _⟩ => ⟨S16384x256, .i1⟩
  | .hbm, ⟨42, _⟩ => ⟨S_, .f32⟩
  | .hbm, ⟨43, _⟩ => ⟨S16384x256, .f32⟩
  | .hbm, ⟨44, _⟩ => ⟨S16384x256, .f32⟩
  | .hbm, ⟨45, _⟩ => ⟨S16x32x32x256, .f32⟩
  | .hbm, ⟨46, _⟩ => ⟨S16x256x32x32, .f32⟩
  | .hbm, ⟨47, _⟩ => ⟨S16x256x32x32, .f32⟩
  | .hbm, ⟨48, _⟩ => ⟨S16x256x32x32, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S16x256x32x32, .f32⟩
  | .hbm, ⟨56, _⟩ => ⟨S16x256x32x32, .f32⟩
  | .hbm, ⟨57, _⟩ => ⟨S_, .i32⟩
  | .hbm, ⟨58, _⟩ => ⟨S8192, .i32⟩
  | .hbm, ⟨59, _⟩ => ⟨S_, .i32⟩
  | .hbm, ⟨60, _⟩ => ⟨S_, .i32⟩
  | .hbm, ⟨61, _⟩ => ⟨S16384, .i32⟩
  | .hbm, ⟨62, _⟩ => ⟨S16384, .i32⟩
  | .hbm, ⟨63, _⟩ => ⟨S_, .i32⟩
  | .hbm, ⟨64, _⟩ => ⟨S16384, .i32⟩
  | .hbm, ⟨65, _⟩ => ⟨S16384, .i1⟩
  | .hbm, ⟨66, _⟩ => ⟨S_, .i32⟩
  | .hbm, ⟨67, _⟩ => ⟨S16384, .i32⟩
  | .hbm, ⟨68, _⟩ => ⟨S16384, .i32⟩
  | .hbm, ⟨69, _⟩ => ⟨S16384, .i32⟩
  | .hbm, ⟨70, _⟩ => ⟨S16384x1, .i32⟩
  | .hbm, ⟨71, _⟩ => ⟨S_, .i32⟩
  | .hbm, ⟨72, _⟩ => ⟨S16384, .i32⟩
  | .hbm, ⟨73, _⟩ => ⟨S8192, .i32⟩
  | .hbm, ⟨74, _⟩ => ⟨S_, .i32⟩
  | .hbm, ⟨75, _⟩ => ⟨S8192, .i32⟩
  | .hbm, ⟨76, _⟩ => ⟨S8192, .i1⟩
  | .hbm, ⟨77, _⟩ => ⟨S8192, .i32⟩
  | .hbm, ⟨78, _⟩ => ⟨S_, .i32⟩
  | .hbm, ⟨79, _⟩ => ⟨S_, .i32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S8192, .f32⟩
  | .hbm, ⟨84, _⟩ => ⟨S_, .f32⟩
  | .hbm, ⟨85, _⟩ => ⟨S8192, .f32⟩
  | .hbm, ⟨86, _⟩ => ⟨S8192, .f32⟩
  | .hbm, ⟨87, _⟩ => ⟨S_, .f32⟩
  | .hbm, ⟨88, _⟩ => ⟨S8192, .f32⟩
  | .hbm, ⟨89, _⟩ => ⟨S8192, .f32⟩
  | .hbm, ⟨90, _⟩ => ⟨S8192, .f32⟩
  | .hbm, ⟨91, _⟩ => ⟨S8192, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .f32⟩
  | .local _ .vmem, ⟨0, _⟩ => ⟨S1x256x1024, .bf16⟩
  | .local _ .vmem, ⟨1, _⟩ => ⟨S1x256x1024, .bf16⟩
  | .local _ .vmem, ⟨2, _⟩ => ⟨S1x1x1024, .f32⟩
  | .local _ .vmem, ⟨3, _⟩ => ⟨S1x1x1024, .f32⟩
  | .local _ .vmem, ⟨4, _⟩ => ⟨S8192x256, .bf16⟩
  | .local _ .vmem, ⟨5, _⟩ => ⟨S8192x256, .bf16⟩
  | .local _ .vmem, ⟨6, _⟩ => ⟨S8192x1, .f32⟩
  | .local _ .vmem, ⟨7, _⟩ => ⟨S1x1x1024, .i32⟩
  | .local _ .vmem, ⟨8, _⟩ => ⟨S1x1x1024, .i32⟩
  | _, _ => ⟨S16x256x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_call0_c : Ref sig .tc := ⟨.hbm, 22, rfl⟩
abbrev main_call0_v0 : Ref sig .tc := ⟨.hbm, 23, rfl⟩
abbrev main_call0_v1 : Ref sig .tc := ⟨.hbm, 24, rfl⟩
abbrev main_call0_c_0 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_c_1 : Ref sig .tc := ⟨.hbm, 30, rfl⟩
abbrev main_call0_c_2 : Ref sig .tc := ⟨.hbm, 31, rfl⟩
abbrev main_call0_v6 : Ref sig .tc := ⟨.hbm, 32, rfl⟩
abbrev main_call0_v7 : Ref sig .tc := ⟨.hbm, 33, rfl⟩
abbrev main_call0_v8 : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_c_3 : Ref sig .tc := ⟨.hbm, 38, rfl⟩
abbrev main_call0_v12 : Ref sig .tc := ⟨.hbm, 39, rfl⟩
abbrev main_call0_v13 : Ref sig .tc := ⟨.hbm, 40, rfl⟩
abbrev main_call0_v14 : Ref sig .tc := ⟨.hbm, 41, rfl⟩
abbrev main_call0_cst : Ref sig .tc := ⟨.hbm, 42, rfl⟩
abbrev main_call0_v15 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_cst_2 : Ref sig .tc := ⟨.hbm, 49, rfl⟩
abbrev main_v22 : Ref sig .tc := ⟨.hbm, 50, rfl⟩
abbrev main_cst_3 : Ref sig .tc := ⟨.hbm, 51, rfl⟩
abbrev main_v23 : Ref sig .tc := ⟨.hbm, 52, rfl⟩
abbrev main_cst_4 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_c : Ref sig .tc := ⟨.hbm, 57, rfl⟩
abbrev main_v27 : Ref sig .tc := ⟨.hbm, 58, rfl⟩
abbrev main_c_5 : Ref sig .tc := ⟨.hbm, 59, rfl⟩
abbrev main_call1_v0 : Ref sig .tc := ⟨.hbm, 60, rfl⟩
abbrev main_call1_v1 : Ref sig .tc := ⟨.hbm, 61, rfl⟩
abbrev main_v28 : Ref sig .tc := ⟨.hbm, 62, rfl⟩
abbrev main_c_6 : Ref sig .tc := ⟨.hbm, 63, rfl⟩
abbrev main_v29 : Ref sig .tc := ⟨.hbm, 64, rfl⟩
abbrev main_v30 : Ref sig .tc := ⟨.hbm, 65, rfl⟩
abbrev main_c_7 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_c_8 : Ref sig .tc := ⟨.hbm, 71, rfl⟩
abbrev main_v35 : Ref sig .tc := ⟨.hbm, 72, rfl⟩
abbrev main_v36 : Ref sig .tc := ⟨.hbm, 73, rfl⟩
abbrev main_c_9 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_c_10 : Ref sig .tc := ⟨.hbm, 78, rfl⟩
abbrev main_v40 : Ref sig .tc := ⟨.hbm, 79, rfl⟩
abbrev main_v41 : Ref sig .tc := ⟨.hbm, 80, rfl⟩
abbrev main_cst_11 : Ref sig .tc := ⟨.hbm, 81, rfl⟩
abbrev main_v42 : Ref sig .tc := ⟨.hbm, 82, rfl⟩
abbrev main_v43 : Ref sig .tc := ⟨.hbm, 83, rfl⟩
abbrev main_cst_12 : Ref sig .tc := ⟨.hbm, 84, rfl⟩
abbrev main_v44 : Ref sig .tc := ⟨.hbm, 85, rfl⟩
abbrev main_v45 : Ref sig .tc := ⟨.hbm, 86, rfl⟩
abbrev main_cst_13 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_cst_14 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8192x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8192x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8192x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1x1024 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S16x256x32x32 : Shape := ⟨4, ![16, 256, 32, 32]⟩
abbrev S8192x256 : Shape := ⟨2, ![8192, 256]⟩
abbrev S16x32x32x256 : Shape := ⟨4, ![16, 32, 32, 256]⟩
abbrev S16384x256 : Shape := ⟨2, ![16384, 256]⟩
abbrev S_ : Shape := ⟨0, ![]⟩
abbrev S16384 : Shape := ⟨1, ![16384]⟩
abbrev S16384x1 : Shape := ⟨2, ![16384, 1]⟩
abbrev S8192 : Shape := ⟨1, ![8192]⟩
abbrev S1x8192 : Shape := ⟨2, ![1, 8192]⟩
abbrev S16384x8192 : Shape := ⟨2, ![16384, 8192]⟩
abbrev S256x8192 : Shape := ⟨2, ![256, 8192]⟩
abbrev S1 : Shape := ⟨1, ![1]⟩
abbrev S1x1 : Shape := ⟨2, ![1, 1]⟩
abbrev S16x32x32 : Shape := ⟨3, ![16, 32, 32]⟩

abbrev nBuf : Space → Nat
  | .hbm => 107
  | .vmem => 0
  | .smem => 0
  | _ => 0

abbrev bufTy : (tb : Table) → Fin (tcTables nBuf tb) → BufTy
  | .hbm, ⟨0, _⟩ => ⟨S16x256x32x32, .f32⟩
  | .hbm, ⟨1, _⟩ => ⟨S8192x256, .f32⟩
  | .hbm, ⟨2, _⟩ => ⟨S16x32x32x256, .f32⟩
  | .hbm, ⟨3, _⟩ => ⟨S16384x256, .f32⟩
  | .hbm, ⟨4, _⟩ => ⟨S16384x256, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S8192x256, .f32⟩
  | .hbm, ⟨9, _⟩ => ⟨S_, .f32⟩
  | .hbm, ⟨10, _⟩ => ⟨S8192, .f32⟩
  | .hbm, ⟨11, _⟩ => ⟨S1x8192, .f32⟩
  | .hbm, ⟨12, _⟩ => ⟨S16384x8192, .f32⟩
  | .hbm, ⟨13, _⟩ => ⟨S16384x8192, .f32⟩
  | .hbm, ⟨14, _⟩ => ⟨S16384x8192, .f32⟩
  | .hbm, ⟨15, _⟩ => ⟨S_, .f32⟩
  | .hbm, ⟨16, _⟩ => ⟨S16384x256, .f32⟩
  | .hbm, ⟨17, _⟩ => ⟨S16384x256, .f32⟩
  | .hbm, ⟨18, _⟩ => ⟨S256x8192, .f32⟩
  | .hbm, ⟨19, _⟩ => ⟨S16384x8192, .f32⟩
  | .hbm, ⟨20, _⟩ => ⟨S16384x8192, .f32⟩
  | .hbm, ⟨21, _⟩ => ⟨S16384x8192, .i32⟩
  | .hbm, ⟨22, _⟩ => ⟨S_, .f32⟩
  | .hbm, ⟨23, _⟩ => ⟨S_, .i32⟩
  | .hbm, ⟨24, _⟩ => ⟨S16384, .f32⟩
  | .hbm, ⟨25, _⟩ => ⟨S16384, .i32⟩
  | .hbm, ⟨26, _⟩ => ⟨S_, .i32⟩
  | .hbm, ⟨27, _⟩ => ⟨S16384, .i32⟩
  | .hbm, ⟨28, _⟩ => ⟨S16384, .i1⟩
  | .hbm, ⟨29, _⟩ => ⟨S_, .i32⟩
  | .hbm, ⟨30, _⟩ => ⟨S16384, .i32⟩
  | .hbm, ⟨31, _⟩ => ⟨S16384, .i32⟩
  | .hbm, ⟨32, _⟩ => ⟨S16384, .i32⟩
  | .hbm, ⟨33, _⟩ => ⟨S16384x1, .i32⟩
  | .hbm, ⟨34, _⟩ => ⟨S1, .i32⟩
  | .hbm, ⟨35, _⟩ => ⟨S_, .i32⟩
  | .hbm, ⟨36, _⟩ => ⟨S16384x1, .i32⟩
  | .hbm, ⟨37, _⟩ => ⟨S16384x1, .i1⟩
  | .hbm, ⟨38, _⟩ => ⟨S1x1, .i32⟩
  | .hbm, ⟨39, _⟩ => ⟨S16384x1, .i32⟩
  | .hbm, ⟨40, _⟩ => ⟨S16384x1, .i1⟩
  | .hbm, ⟨41, _⟩ => ⟨S16384x1, .i1⟩
  | .hbm, ⟨42, _⟩ => ⟨S_, .i1⟩
  | .hbm, ⟨43, _⟩ => ⟨S16384, .i1⟩
  | .hbm, ⟨44, _⟩ => ⟨S16384x256, .f32⟩
  | .hbm, ⟨45, _⟩ => ⟨S16384x256, .i1⟩
  | .hbm, ⟨46, _⟩ => ⟨S_, .f32⟩
  | .hbm, ⟨47, _⟩ => ⟨S16384x256, .f32⟩
  | .hbm, ⟨48, _⟩ => ⟨S16384x256, .f32⟩
  | .hbm, ⟨49, _⟩ => ⟨S16x32x32x256, .f32⟩
  | .hbm, ⟨50, _⟩ => ⟨S16x256x32x32, .f32⟩
  | .hbm, ⟨51, _⟩ => ⟨S16x256x32x32, .f32⟩
  | .hbm, ⟨52, _⟩ => ⟨S16x256x32x32, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S16x256x32x32, .f32⟩
  | .hbm, ⟨58, _⟩ => ⟨S16x256x32x32, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S16x256x32x32, .f32⟩
  | .hbm, ⟨66, _⟩ => ⟨S16x256x32x32, .f32⟩
  | .hbm, ⟨67, _⟩ => ⟨S_, .i32⟩
  | .hbm, ⟨68, _⟩ => ⟨S8192, .i32⟩
  | .hbm, ⟨69, _⟩ => ⟨S_, .i32⟩
  | .hbm, ⟨70, _⟩ => ⟨S_, .i32⟩
  | .hbm, ⟨71, _⟩ => ⟨S16384, .i32⟩
  | .hbm, ⟨72, _⟩ => ⟨S16384, .i32⟩
  | .hbm, ⟨73, _⟩ => ⟨S_, .i32⟩
  | .hbm, ⟨74, _⟩ => ⟨S16384, .i32⟩
  | .hbm, ⟨75, _⟩ => ⟨S16384, .i1⟩
  | .hbm, ⟨76, _⟩ => ⟨S_, .i32⟩
  | .hbm, ⟨77, _⟩ => ⟨S16384, .i32⟩
  | .hbm, ⟨78, _⟩ => ⟨S16384, .i32⟩
  | .hbm, ⟨79, _⟩ => ⟨S16384, .i32⟩
  | .hbm, ⟨80, _⟩ => ⟨S16384x1, .i32⟩
  | .hbm, ⟨81, _⟩ => ⟨S_, .i32⟩
  | .hbm, ⟨82, _⟩ => ⟨S16384, .i32⟩
  | .hbm, ⟨83, _⟩ => ⟨S8192, .i32⟩
  | .hbm, ⟨84, _⟩ => ⟨S_, .i32⟩
  | .hbm, ⟨85, _⟩ => ⟨S8192, .i32⟩
  | .hbm, ⟨86, _⟩ => ⟨S8192, .i1⟩
  | .hbm, ⟨87, _⟩ => ⟨S8192, .i32⟩
  | .hbm, ⟨88, _⟩ => ⟨S_, .i32⟩
  | .hbm, ⟨89, _⟩ => ⟨S_, .i32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S8192, .f32⟩
  | .hbm, ⟨94, _⟩ => ⟨S_, .f32⟩
  | .hbm, ⟨95, _⟩ => ⟨S8192, .f32⟩
  | .hbm, ⟨96, _⟩ => ⟨S8192, .f32⟩
  | .hbm, ⟨97, _⟩ => ⟨S_, .f32⟩
  | .hbm, ⟨98, _⟩ => ⟨S8192, .f32⟩
  | .hbm, ⟨99, _⟩ => ⟨S8192, .f32⟩
  | .hbm, ⟨100, _⟩ => ⟨S8192, .f32⟩
  | .hbm, ⟨101, _⟩ => ⟨S8192, .f32⟩
  | .hbm, ⟨102, _⟩ => ⟨S_, .f32⟩
  | .hbm, ⟨103, _⟩ => ⟨S_, .f32⟩
  | .hbm, ⟨104, _⟩ => ⟨S_, .f32⟩
  | .hbm, ⟨105, _⟩ => ⟨S_, .f32⟩
  | .hbm, ⟨106, _⟩ => ⟨S16x32x32, .i32⟩
  | _, _ => ⟨S16x256x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_call0_v0 : Ref sig .tc := ⟨.hbm, 21, rfl⟩
abbrev main_call0_cst : Ref sig .tc := ⟨.hbm, 22, rfl⟩
abbrev main_call0_c : Ref sig .tc := ⟨.hbm, 23, rfl⟩
abbrev main_call0_v1_0 : Ref sig .tc := ⟨.hbm, 24, rfl⟩
abbrev main_v16 : Ref sig .tc := ⟨.hbm, 25, rfl⟩
abbrev main_call1_c : Ref sig .tc := ⟨.hbm, 26, rfl⟩
abbrev main_call1_v0 : Ref sig .tc := ⟨.hbm, 27, rfl⟩
abbrev main_call1_v1 : Ref sig .tc := ⟨.hbm, 28, rfl⟩
abbrev main_call1_c_0 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_v5 : Ref sig .tc := ⟨.hbm, 33, rfl⟩
abbrev main_call1_c_1 : Ref sig .tc := ⟨.hbm, 34, rfl⟩
abbrev main_call1_c_2 : Ref sig .tc := ⟨.hbm, 35, rfl⟩
abbrev main_call1_v6 : Ref sig .tc := ⟨.hbm, 36, rfl⟩
abbrev main_call1_v7 : Ref sig .tc := ⟨.hbm, 37, rfl⟩
abbrev main_call1_v8 : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_3 : Ref sig .tc := ⟨.hbm, 42, rfl⟩
abbrev main_call1_v12 : Ref sig .tc := ⟨.hbm, 43, rfl⟩
abbrev main_call1_v13 : Ref sig .tc := ⟨.hbm, 44, rfl⟩
abbrev main_call1_v14 : Ref sig .tc := ⟨.hbm, 45, rfl⟩
abbrev main_call1_cst : Ref sig .tc := ⟨.hbm, 46, rfl⟩
abbrev main_call1_v15 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_cst_2 : Ref sig .tc := ⟨.hbm, 53, rfl⟩
abbrev main_v22 : Ref sig .tc := ⟨.hbm, 54, rfl⟩
abbrev main_cst_3 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_cst_4 : Ref sig .tc := ⟨.hbm, 59, rfl⟩
abbrev main_v26 : Ref sig .tc := ⟨.hbm, 60, rfl⟩
abbrev main_cst_5 : Ref sig .tc := ⟨.hbm, 61, rfl⟩
abbrev main_v27 : Ref sig .tc := ⟨.hbm, 62, rfl⟩
abbrev main_cst_6 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_c : Ref sig .tc := ⟨.hbm, 67, rfl⟩
abbrev main_v31 : Ref sig .tc := ⟨.hbm, 68, rfl⟩
abbrev main_c_7 : Ref sig .tc := ⟨.hbm, 69, rfl⟩
abbrev main_call2_v0 : Ref sig .tc := ⟨.hbm, 70, rfl⟩
abbrev main_call2_v1 : Ref sig .tc := ⟨.hbm, 71, rfl⟩
abbrev main_v32 : Ref sig .tc := ⟨.hbm, 72, rfl⟩
abbrev main_c_8 : Ref sig .tc := ⟨.hbm, 73, rfl⟩
abbrev main_v33 : Ref sig .tc := ⟨.hbm, 74, rfl⟩
abbrev main_v34 : Ref sig .tc := ⟨.hbm, 75, rfl⟩
abbrev main_c_9 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_c_10 : Ref sig .tc := ⟨.hbm, 81, rfl⟩
abbrev main_v39 : Ref sig .tc := ⟨.hbm, 82, rfl⟩
abbrev main_v40 : Ref sig .tc := ⟨.hbm, 83, rfl⟩
abbrev main_c_11 : Ref sig .tc := ⟨.hbm, 84, rfl⟩
abbrev main_v41 : Ref sig .tc := ⟨.hbm, 85, rfl⟩
abbrev main_v42 : Ref sig .tc := ⟨.hbm, 86, rfl⟩
abbrev main_v43 : Ref sig .tc := ⟨.hbm, 87, rfl⟩
abbrev main_c_12 : Ref sig .tc := ⟨.hbm, 88, rfl⟩
abbrev main_v44 : Ref sig .tc := ⟨.hbm, 89, rfl⟩
abbrev main_v45 : Ref sig .tc := ⟨.hbm, 90, rfl⟩
abbrev main_cst_13 : Ref sig .tc := ⟨.hbm, 91, rfl⟩
abbrev main_v46 : Ref sig .tc := ⟨.hbm, 92, rfl⟩
abbrev main_v47 : Ref sig .tc := ⟨.hbm, 93, rfl⟩
abbrev main_cst_14 : Ref sig .tc := ⟨.hbm, 94, rfl⟩
abbrev main_v48 : Ref sig .tc := ⟨.hbm, 95, rfl⟩
abbrev main_v49 : Ref sig .tc := ⟨.hbm, 96, rfl⟩
abbrev main_cst_15 : Ref sig .tc := ⟨.hbm, 97, rfl⟩
abbrev main_v50 : Ref sig .tc := ⟨.hbm, 98, rfl⟩
abbrev main_v51 : Ref sig .tc := ⟨.hbm, 99, rfl⟩
abbrev main_v52 : Ref sig .tc := ⟨.hbm, 100, rfl⟩
abbrev main_v53 : Ref sig .tc := ⟨.hbm, 101, rfl⟩
abbrev main_cst_16 : Ref sig .tc := ⟨.hbm, 102, rfl⟩
abbrev main_v54 : Ref sig .tc := ⟨.hbm, 103, rfl⟩
abbrev main_v55 : Ref sig .tc := ⟨.hbm, 104, rfl⟩
abbrev main_v56 : Ref sig .tc := ⟨.hbm, 105, rfl⟩
abbrev main_v57 : Ref sig .tc := ⟨.hbm, 106, rfl⟩

abbrev nD : Nat := 1
abbrev τ : Topo := Topo.v7x

variable {F : FTy → Type} [FloatOps F]
-- ==== Proof.RefRun.lean ====
/-
  The run of the reference program, stated by hand: @main is one straight line of host operations (the functions it calls
  inlined), so every buffer ends at the operations' results folded over the launch contents, and since the program declares
  no semaphore every counter of the machine is zero at the end.
-/
module

public import proofs.«01_k».proof.Proof.Gen.ReferenceIdeal
public import Idealize.ShloMosaic.Lib.Claim

@[expose] public section

noncomputable section

namespace Cert.Proof.Ref

open Cert.ReferenceIdeal Cert.ReferenceIdeal.Gen
open Idealize.ShloMosaic Idealize.ShloMosaic.TcCoe Idealize.SL.Sem

variable {F : FTy → Type} [FloatOps F]

/-- The 19 operations of the squared distances, in order. -/
abbrev refDist : List (HloOp τ sig (Elt F)) :=
  [ StableHlo.unary main_arg0 main_v0 ((transpose S16x32x32x256 [0, 2, 3, 1] · transposes_S16x256x32x32_S16x32x32x256_0_2_3_1) : (⟨S16x256x32x32, .f32⟩ : BufTy).Contents (Elt F) → (⟨S16x32x32x256, .f32⟩ : BufTy).Contents (Elt F)),
    StableHlo.reshape main_v0 main_v1 (rfl : (.f32 : EltTy) = .f32) shapeCasts_S16x32x32x256_S16384x256,
    StableHlo.binary main_v1 main_v1 main_v2 (mulf : (⟨S16384x256, .f32⟩ : BufTy).Contents (Elt F) → (⟨S16384x256, .f32⟩ : BufTy).Contents (Elt F) → (⟨S16384x256, .f32⟩ : BufTy).Contents (Elt F)),
    StableHlo.nullary main_cst (constant S_ .f32 0x00000000#32),
    StableHlo.binary main_v2 main_cst main_v3 ((fun x v => Host.reduceAdd x v reducesTo_S16384x256_S16384_d1 h_S_) : (⟨S16384x256, .f32⟩ : BufTy).Contents (Elt F) → (⟨S_, .f32⟩ : BufTy).Contents (Elt F) → (⟨S16384, .f32⟩ : BufTy).Contents (Elt F)),
    StableHlo.unary main_v3 main_v4 (broadcastInDim S16384x1 ![0] bcast_S16384_S16384x1_0 : (⟨S16384, .f32⟩ : BufTy).Contents (Elt F) → (⟨S16384x1, .f32⟩ : BufTy).Contents (Elt F)),
    StableHlo.binary main_arg1 main_arg1 main_v5 (mulf : (⟨S8192x256, .f32⟩ : BufTy).Contents (Elt F) → (⟨S8192x256, .f32⟩ : BufTy).Contents (Elt F) → (⟨S8192x256, .f32⟩ : BufTy).Contents (Elt F)),
    StableHlo.nullary main_cst_0 (constant S_ .f32 0x00000000#32),
    StableHlo.binary main_v5 main_cst_0 main_v6 ((fun x v => Host.reduceAdd x v reducesTo_S8192x256_S8192_d1 h_S_) : (⟨S8192x256, .f32⟩ : BufTy).Contents (Elt F) → (⟨S_, .f32⟩ : BufTy).Contents (Elt F) → (⟨S8192, .f32⟩ : BufTy).Contents (Elt F)),
    StableHlo.unary main_v6 main_v7 (broadcastInDim S1x8192 ![1] bcast_S8192_S1x8192_1 : (⟨S8192, .f32⟩ : BufTy).Contents (Elt F) → (⟨S1x8192, .f32⟩ : BufTy).Contents (Elt F)),
    StableHlo.unary main_v4 main_v8 (broadcastInDim S16384x8192 ![0, 1] bcast_S16384x1_S16384x8192_0_1 : (⟨S16384x1, .f32⟩ : BufTy).Contents (Elt F) → (⟨S16384x8192, .f32⟩ : BufTy).Contents (Elt F)),
    StableHlo.unary main_v7 main_v9 (broadcastInDim S16384x8192 ![0, 1] bcast_S1x8192_S16384x8192_0_1 : (⟨S1x8192, .f32⟩ : BufTy).Contents (Elt F) → (⟨S16384x8192, .f32⟩ : BufTy).Contents (Elt F)),
    StableHlo.binary main_v8 main_v9 main_v10 (addf : (⟨S16384x8192, .f32⟩ : BufTy).Contents (Elt F) → (⟨S16384x8192, .f32⟩ : BufTy).Contents (Elt F) → (⟨S16384x8192, .f32⟩ : BufTy).Contents (Elt F)),
    StableHlo.nullary main_cst_1 (constant S_ .f32 0x40000000#32),
    StableHlo.unary main_cst_1 main_v11 (broadcastInDim S16384x256 ![] bcast_S_S16384x256 : (⟨S_, .f32⟩ : BufTy).Contents (Elt F) → (⟨S16384x256, .f32⟩ : BufTy).Contents (Elt F)),
    StableHlo.binary main_v11 main_v1 main_v12 (mulf : (⟨S16384x256, .f32⟩ : BufTy).Contents (Elt F) → (⟨S16384x256, .f32⟩ : BufTy).Contents (Elt F) → (⟨S16384x256, .f32⟩ : BufTy).Contents (Elt F)),
    StableHlo.unary main_arg1 main_v13 ((transpose S256x8192 [1, 0] · transposes_S8192x256_S256x8192_1_0) : (⟨S8192x256, .f32⟩ : BufTy).Contents (Elt F) → (⟨S256x8192, .f32⟩ : BufTy).Contents (Elt F)),
    StableHlo.binary main_v12 main_v13 main_v14 ((fun l r => Host.dotGeneral dot_S16384x256_S256x8192_S16384x8192_1_0_0_1_n_n none l r) : (⟨S16384x256, .f32⟩ : BufTy).Contents (Elt F) → (⟨S256x8192, .f32⟩ : BufTy).Contents (Elt F) → (⟨S16384x8192, .f32⟩ : BufTy).Contents (Elt F)),
    StableHlo.binary main_v10 main_v14 main_v15 (subf : (⟨S16384x8192, .f32⟩ : BufTy).Contents (Elt F) → (⟨S16384x8192, .f32⟩ : BufTy).Contents (Elt F) → (⟨S16384x8192, .f32⟩ : BufTy).Contents (Elt F)) ]

theorem refDist_sub : (refDist : List (HloOp τ sig (Elt F))).Forall fun op => op.bufs ⊆ StableHlo.tcRefs τ sig :=
  ⟨StableHlo.unary_bufs_sub .., StableHlo.reshape_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.unary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub .., StableHlo.binary_bufs_sub ..⟩

/-- The references these operations write, in order. -/
abbrev refDist_W : List (Ref sig .tc) := [main_v0, main_v1, main_v2, main_cst, main_v3, main_v4, main_v5, main_cst_0, main_v6, main_v7, main_v8, main_v9, main_v10, main_cst_1, main_v11, main_v12, main_v13, main_v14, main_v15]
theorem refDist_writes : (refDist : List (HloOp τ sig (Elt F))).Forall fun op => op.writes ⊆ (refDist_W.map (Proc.devRef (τ := τ) .tc)).toFinset :=
  StableHlo.forall_writes_sub_of_map rfl

/-- The 5 operations of the index of the least distance of each row, in order. -/
abbrev refArgmin : List (HloOp τ sig (Elt F)) :=
  [ StableHlo.TRef.nullary (.of main_call0_v0 : StableHlo.TRef sig ⟨S16384x8192, .i32⟩) (iotaInDim S16384x8192 32 1),
    StableHlo.TRef.nullary (.of main_call0_cst : StableHlo.TRef sig ⟨S_, .f32⟩) (constant S_ .f32 0x7F800000#32),
    StableHlo.TRef.nullary (.of main_call0_c : StableHlo.TRef sig ⟨S_, .i32⟩) (constantI S_ 32 0#32),
    StableHlo.TRef.quaternary (.of main_v15 : StableHlo.TRef sig ⟨S16384x8192, .f32⟩) (.of main_call0_v0 : StableHlo.TRef sig ⟨S16384x8192, .i32⟩) (.of main_call0_cst : StableHlo.TRef sig ⟨S_, .f32⟩) (.of main_call0_c : StableHlo.TRef sig ⟨S_, .i32⟩) (.of main_call0_v1_0 : StableHlo.TRef sig ⟨S16384, .f32⟩) (fun x y u v j => (Host.argReduce reducer_argmin_f32_i32 x y u v reducesTo_S16384x8192_S16384_d1 h_S_ j).1),
    StableHlo.TRef.quaternary (.of main_v15 : StableHlo.TRef sig ⟨S16384x8192, .f32⟩) (.of main_call0_v0 : StableHlo.TRef sig ⟨S16384x8192, .i32⟩) (.of main_call0_cst : StableHlo.TRef sig ⟨S_, .f32⟩) (.of main_call0_c : StableHlo.TRef sig ⟨S_, .i32⟩) (.of main_v16 : StableHlo.TRef sig ⟨S16384, .i32⟩) (fun x y u v j => (Host.argReduce reducer_argmin_f32_i32 x y u v reducesTo_S16384x8192_S16384_d1 h_S_ j).2) ]

theorem refArgmin_sub : (refArgmin : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩

/-- The references these operations write, in order. -/
abbrev refArgmin_W : List (Ref sig .tc) := [main_call0_v0, main_call0_cst, main_call0_c, main_call0_v1_0, main_v16]
theorem refArgmin_writes : (refArgmin : List (HloOp τ sig (Elt F))).Forall fun op => op.writes ⊆ (refArgmin_W.map (Proc.devRef (τ := τ) .tc)).toFinset :=
  StableHlo.forall_writes_sub_of_map rfl

/-- The 23 operations of the rows of the codebook at those indices, in order. -/
abbrev refTake : List (HloOp τ sig (Elt F)) :=
  [ StableHlo.TRef.nullary (.of main_call1_c : StableHlo.TRef sig ⟨S_, .i32⟩) (constantI S_ 32 0#32),
    StableHlo.TRef.unary (.of main_call1_c : StableHlo.TRef sig ⟨S_, .i32⟩) (.of main_call1_v0 : StableHlo.TRef sig ⟨S16384, .i32⟩) (broadcastInDim S16384 ![] bcast_S_S16384),
    StableHlo.TRef.binary (.of main_v16 : StableHlo.TRef sig ⟨S16384, .i32⟩) (.of main_call1_v0 : StableHlo.TRef sig ⟨S16384, .i32⟩) (.of main_call1_v1 : StableHlo.TRef sig ⟨S16384, .i1⟩) (cmpi .slt),
    StableHlo.TRef.nullary (.of main_call1_c_0 : StableHlo.TRef sig ⟨S_, .i32⟩) (constantI S_ 32 8192#32),
    StableHlo.TRef.unary (.of main_call1_c_0 : StableHlo.TRef sig ⟨S_, .i32⟩) (.of main_call1_v2 : StableHlo.TRef sig ⟨S16384, .i32⟩) (broadcastInDim S16384 ![] bcast_S_S16384),
    StableHlo.TRef.binary (.of main_v16 : StableHlo.TRef sig ⟨S16384, .i32⟩) (.of main_call1_v2 : StableHlo.TRef sig ⟨S16384, .i32⟩) (.of main_call1_v3 : StableHlo.TRef sig ⟨S16384, .i32⟩) addi,
    StableHlo.TRef.ternary (.of main_call1_v1 : StableHlo.TRef sig ⟨S16384, .i1⟩) (.of main_call1_v3 : StableHlo.TRef sig ⟨S16384, .i32⟩) (.of main_v16 : StableHlo.TRef sig ⟨S16384, .i32⟩) (.of main_call1_v4 : StableHlo.TRef sig ⟨S16384, .i32⟩) select,
    StableHlo.TRef.unary (.of main_call1_v4 : StableHlo.TRef sig ⟨S16384, .i32⟩) (.of main_call1_v5 : StableHlo.TRef sig ⟨S16384x1, .i32⟩) (broadcastInDim S16384x1 ![0] bcast_S16384_S16384x1_0),
    StableHlo.TRef.nullary (.of main_call1_c_1 : StableHlo.TRef sig ⟨S1, .i32⟩) (constantI S1 32 8191#32),
    StableHlo.TRef.nullary (.of main_call1_c_2 : StableHlo.TRef sig ⟨S_, .i32⟩) (constantI S_ 32 0#32),
    StableHlo.TRef.unary (.of main_call1_c_2 : StableHlo.TRef sig ⟨S_, .i32⟩) (.of main_call1_v6 : StableHlo.TRef sig ⟨S16384x1, .i32⟩) (broadcastInDim S16384x1 ![] bcast_S_S16384x1),
    StableHlo.TRef.binary (.of main_call1_v5 : StableHlo.TRef sig ⟨S16384x1, .i32⟩) (.of main_call1_v6 : StableHlo.TRef sig ⟨S16384x1, .i32⟩) (.of main_call1_v7 : StableHlo.TRef sig ⟨S16384x1, .i1⟩) (cmpi .sge),
    StableHlo.TRef.unary (.of main_call1_c_1 : StableHlo.TRef sig ⟨S1, .i32⟩) (.of main_call1_v8 : StableHlo.TRef sig ⟨S1x1, .i32⟩) (broadcastInDim S1x1 ![1] bcast_S1_S1x1_1),
    StableHlo.TRef.unary (.of main_call1_v8 : StableHlo.TRef sig ⟨S1x1, .i32⟩) (.of main_call1_v9 : StableHlo.TRef sig ⟨S16384x1, .i32⟩) (broadcastInDim S16384x1 ![0, 1] bcast_S1x1_S16384x1_0_1),
    StableHlo.TRef.binary (.of main_call1_v5 : StableHlo.TRef sig ⟨S16384x1, .i32⟩) (.of main_call1_v9 : StableHlo.TRef sig ⟨S16384x1, .i32⟩) (.of main_call1_v10 : StableHlo.TRef sig ⟨S16384x1, .i1⟩) (cmpi .sle),
    StableHlo.TRef.binary (.of main_call1_v7 : StableHlo.TRef sig ⟨S16384x1, .i1⟩) (.of main_call1_v10 : StableHlo.TRef sig ⟨S16384x1, .i1⟩) (.of main_call1_v11 : StableHlo.TRef sig ⟨S16384x1, .i1⟩) andi,
    StableHlo.TRef.nullary (.of main_call1_c_3 : StableHlo.TRef sig ⟨S_, .i1⟩) (constantI S_ 1 1#1),
    StableHlo.TRef.binary (.of main_call1_v11 : StableHlo.TRef sig ⟨S16384x1, .i1⟩) (.of main_call1_c_3 : StableHlo.TRef sig ⟨S_, .i1⟩) (.of main_call1_v12 : StableHlo.TRef sig ⟨S16384, .i1⟩) (fun x v => Host.reduce IntOp.andi x v reducesTo_S16384x1_S16384_d1 h_S_),
    StableHlo.TRef.binary (.of main_arg1 : StableHlo.TRef sig ⟨S8192x256, .f32⟩) (.of main_call1_v5 : StableHlo.TRef sig ⟨S16384x1, .i32⟩) (.of main_call1_v13 : StableHlo.TRef sig ⟨S16384x256, .f32⟩) (fun x i => Host.gather gather_S8192x256_S16384x1_S16384x256_1_0_n_n_0_1_1256 x i),
    StableHlo.TRef.unary (.of main_call1_v12 : StableHlo.TRef sig ⟨S16384, .i1⟩) (.of main_call1_v14 : StableHlo.TRef sig ⟨S16384x256, .i1⟩) (broadcastInDim S16384x256 ![0] bcast_S16384_S16384x256_0),
    StableHlo.TRef.nullary (.of main_call1_cst : StableHlo.TRef sig ⟨S_, .f32⟩) (constant S_ .f32 0x7FC00000#32),
    StableHlo.TRef.unary (.of main_call1_cst : StableHlo.TRef sig ⟨S_, .f32⟩) (.of main_call1_v15 : StableHlo.TRef sig ⟨S16384x256, .f32⟩) (broadcastInDim S16384x256 ![] bcast_S_S16384x256),
    StableHlo.TRef.ternary (.of main_call1_v14 : StableHlo.TRef sig ⟨S16384x256, .i1⟩) (.of main_call1_v13 : StableHlo.TRef sig ⟨S16384x256, .f32⟩) (.of main_call1_v15 : StableHlo.TRef sig ⟨S16384x256, .f32⟩) (.of main_v17 : StableHlo.TRef sig ⟨S16384x256, .f32⟩) select ]

theorem refTake_sub : (refTake : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.unary_bufs_sub .., StableHlo.nullary_bufs_sub .., StableHlo.unary_bufs_sub .., StableHlo.ternary_bufs_sub ..⟩

/-- The references these operations write, in order. -/
abbrev refTake_W : List (Ref sig .tc) := [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v17]
theorem refTake_writes : (refTake : List (HloOp τ sig (Elt F))).Forall fun op => op.writes ⊆ (refTake_W.map (Proc.devRef (τ := τ) .tc)).toFinset :=
  StableHlo.forall_writes_sub_of_map rfl

/-- The 21 operations of the two losses and the straight-through result, in order. -/
abbrev refLoss : List (HloOp τ sig (Elt F)) :=
  [ StableHlo.reshape main_v17 main_v18 (rfl : (.f32 : EltTy) = .f32) shapeCasts_S16384x256_S16x32x32x256,
    StableHlo.unary main_v18 main_v19 ((transpose S16x256x32x32 [0, 3, 1, 2] · transposes_S16x32x32x256_S16x256x32x32_0_3_1_2) : (⟨S16x32x32x256, .f32⟩ : BufTy).Contents (Elt F) → (⟨S16x256x32x32, .f32⟩ : BufTy).Contents (Elt F)),
    StableHlo.binary main_v19 main_arg0 main_v20 (subf : (⟨S16x256x32x32, .f32⟩ : BufTy).Contents (Elt F) → (⟨S16x256x32x32, .f32⟩ : BufTy).Contents (Elt F) → (⟨S16x256x32x32, .f32⟩ : BufTy).Contents (Elt F)),
    StableHlo.binary main_v20 main_v20 main_v21 (mulf : (⟨S16x256x32x32, .f32⟩ : BufTy).Contents (Elt F) → (⟨S16x256x32x32, .f32⟩ : BufTy).Contents (Elt F) → (⟨S16x256x32x32, .f32⟩ : BufTy).Contents (Elt F)),
    StableHlo.nullary main_cst_2 (constant S_ .f32 0x00000000#32),
    StableHlo.binary main_v21 main_cst_2 main_v22 ((fun x v => Host.reduceAdd x v reducesTo_S16x256x32x32_S_d0_1_2_3 h_S_) : (⟨S16x256x32x32, .f32⟩ : BufTy).Contents (Elt F) → (⟨S_, .f32⟩ : BufTy).Contents (Elt F) → (⟨S_, .f32⟩ : BufTy).Contents (Elt F)),
    StableHlo.nullary main_cst_3 (constant S_ .f32 0x4A800000#32),
    StableHlo.binary main_v22 main_cst_3 main_v23 (Host.divf : (⟨S_, .f32⟩ : BufTy).Contents (Elt F) → (⟨S_, .f32⟩ : BufTy).Contents (Elt F) → (⟨S_, .f32⟩ : BufTy).Contents (Elt F)),
    StableHlo.binary main_arg0 main_v19 main_v24 (subf : (⟨S16x256x32x32, .f32⟩ : BufTy).Contents (Elt F) → (⟨S16x256x32x32, .f32⟩ : BufTy).Contents (Elt F) → (⟨S16x256x32x32, .f32⟩ : BufTy).Contents (Elt F)),
    StableHlo.binary main_v24 main_v24 main_v25 (mulf : (⟨S16x256x32x32, .f32⟩ : BufTy).Contents (Elt F) → (⟨S16x256x32x32, .f32⟩ : BufTy).Contents (Elt F) → (⟨S16x256x32x32, .f32⟩ : BufTy).Contents (Elt F)),
    StableHlo.nullary main_cst_4 (constant S_ .f32 0x00000000#32),
    StableHlo.binary main_v25 main_cst_4 main_v26 ((fun x v => Host.reduceAdd x v reducesTo_S16x256x32x32_S_d0_1_2_3 h_S_) : (⟨S16x256x32x32, .f32⟩ : BufTy).Contents (Elt F) → (⟨S_, .f32⟩ : BufTy).Contents (Elt F) → (⟨S_, .f32⟩ : BufTy).Contents (Elt F)),
    StableHlo.nullary main_cst_5 (constant S_ .f32 0x4A800000#32),
    StableHlo.binary main_v26 main_cst_5 main_v27 (Host.divf : (⟨S_, .f32⟩ : BufTy).Contents (Elt F) → (⟨S_, .f32⟩ : BufTy).Contents (Elt F) → (⟨S_, .f32⟩ : BufTy).Contents (Elt F)),
    StableHlo.nullary main_cst_6 (constant S_ .f32 0x3E800000#32),
    StableHlo.binary main_cst_6 main_v27 main_v28 (mulf : (⟨S_, .f32⟩ : BufTy).Contents (Elt F) → (⟨S_, .f32⟩ : BufTy).Contents (Elt F) → (⟨S_, .f32⟩ : BufTy).Contents (Elt F)),
    StableHlo.binary main_v19 main_arg0 main_v29 (subf : (⟨S16x256x32x32, .f32⟩ : BufTy).Contents (Elt F) → (⟨S16x256x32x32, .f32⟩ : BufTy).Contents (Elt F) → (⟨S16x256x32x32, .f32⟩ : BufTy).Contents (Elt F)),
    StableHlo.binary main_arg0 main_v29 main_v30 (addf : (⟨S16x256x32x32, .f32⟩ : BufTy).Contents (Elt F) → (⟨S16x256x32x32, .f32⟩ : BufTy).Contents (Elt F) → (⟨S16x256x32x32, .f32⟩ : BufTy).Contents (Elt F)),
    StableHlo.nullary main_c (constantI S_ 32 0#32),
    StableHlo.unary main_c main_v31 (broadcastInDim S8192 ![] bcast_S_S8192 : (⟨S_, .i32⟩ : BufTy).Contents (Elt F) → (⟨S8192, .i32⟩ : BufTy).Contents (Elt F)),
    StableHlo.nullary main_c_7 (constantI S_ 32 0#32) ]

theorem refLoss_sub : (refLoss : List (HloOp τ sig (Elt F))).Forall fun op => op.bufs ⊆ StableHlo.tcRefs τ sig :=
  ⟨StableHlo.reshape_bufs_sub .., StableHlo.unary_bufs_sub .., StableHlo.binary_bufs_sub .., StableHlo.binary_bufs_sub .., StableHlo.nullary_bufs_sub .., StableHlo.binary_bufs_sub .., StableHlo.nullary_bufs_sub .., StableHlo.binary_bufs_sub .., StableHlo.binary_bufs_sub .., StableHlo.binary_bufs_sub .., StableHlo.nullary_bufs_sub .., StableHlo.binary_bufs_sub .., StableHlo.nullary_bufs_sub .., StableHlo.binary_bufs_sub .., StableHlo.nullary_bufs_sub .., StableHlo.binary_bufs_sub .., StableHlo.binary_bufs_sub .., StableHlo.binary_bufs_sub .., StableHlo.nullary_bufs_sub .., StableHlo.unary_bufs_sub .., StableHlo.nullary_bufs_sub ..⟩

/-- The references these operations write, in order. -/
abbrev refLoss_W : List (Ref sig .tc) := [main_v18, main_v19, main_v20, main_v21, main_cst_2, main_v22, main_cst_3, main_v23, main_v24, main_v25, main_cst_4, main_v26, main_cst_5, main_v27, main_cst_6, main_v28, main_v29, main_v30, main_c, main_v31, main_c_7]
theorem refLoss_writes : (refLoss : List (HloOp τ sig (Elt F))).Forall fun op => op.writes ⊆ (refLoss_W.map (Proc.devRef (τ := τ) .tc)).toFinset :=
  StableHlo.forall_writes_sub_of_map rfl

/-- The 3 operations of the indices clipped from below, in order. -/
abbrev refClip : List (HloOp τ sig (Elt F)) :=
  [ StableHlo.TRef.unary (.of main_c_7 : StableHlo.TRef sig ⟨S_, .i32⟩) (.of main_call2_v0 : StableHlo.TRef sig ⟨S_, .i32⟩) id,
    StableHlo.TRef.unary (.of main_call2_v0 : StableHlo.TRef sig ⟨S_, .i32⟩) (.of main_call2_v1 : StableHlo.TRef sig ⟨S16384, .i32⟩) (broadcastInDim S16384 ![] bcast_S_S16384),
    StableHlo.TRef.binary (.of main_call2_v1 : StableHlo.TRef sig ⟨S16384, .i32⟩) (.of main_v16 : StableHlo.TRef sig ⟨S16384, .i32⟩) (.of main_v32 : StableHlo.TRef sig ⟨S16384, .i32⟩) maxsi ]

theorem refClip_sub : (refClip : List (HloOp τ sig (Elt F))).Forall fun op => op.bufs ⊆ StableHlo.tcRefs τ sig :=
  ⟨StableHlo.unary_bufs_sub .., StableHlo.unary_bufs_sub .., StableHlo.binary_bufs_sub ..⟩

/-- The references these operations write, in order. -/
abbrev refClip_W : List (Ref sig .tc) := [main_call2_v0, main_call2_v1, main_v32]
theorem refClip_writes : (refClip : List (HloOp τ sig (Elt F))).Forall fun op => op.writes ⊆ (refClip_W.map (Proc.devRef (τ := τ) .tc)).toFinset :=
  StableHlo.forall_writes_sub_of_map rfl

/-- The 17 operations of the count of each code and the codes in use, in order. -/
abbrev refCount : List (HloOp τ sig (Elt F)) :=
  [ StableHlo.nullary main_c_8 (constantI S_ 32 0#32),
    StableHlo.unary main_c_8 main_v33 (broadcastInDim S16384 ![] bcast_S_S16384 : (⟨S_, .i32⟩ : BufTy).Contents (Elt F) → (⟨S16384, .i32⟩ : BufTy).Contents (Elt F)),
    StableHlo.binary main_v32 main_v33 main_v34 (cmpi .slt : (⟨S16384, .i32⟩ : BufTy).Contents (Elt F) → (⟨S16384, .i32⟩ : BufTy).Contents (Elt F) → (⟨S16384, .i1⟩ : BufTy).Contents (Elt F)),
    StableHlo.nullary main_c_9 (constantI S_ 32 8192#32),
    StableHlo.unary main_c_9 main_v35 (broadcastInDim S16384 ![] bcast_S_S16384 : (⟨S_, .i32⟩ : BufTy).Contents (Elt F) → (⟨S16384, .i32⟩ : BufTy).Contents (Elt F)),
    StableHlo.binary main_v32 main_v35 main_v36 (addi : (⟨S16384, .i32⟩ : BufTy).Contents (Elt F) → (⟨S16384, .i32⟩ : BufTy).Contents (Elt F) → (⟨S16384, .i32⟩ : BufTy).Contents (Elt F)),
    StableHlo.ternary main_v34 main_v36 main_v32 main_v37 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    StableHlo.unary main_v37 main_v38 (broadcastInDim S16384x1 ![0] bcast_S16384_S16384x1_0 : (⟨S16384, .i32⟩ : BufTy).Contents (Elt F) → (⟨S16384x1, .i32⟩ : BufTy).Contents (Elt F)),
    StableHlo.nullary main_c_10 (constantI S_ 32 1#32),
    StableHlo.unary main_c_10 main_v39 (broadcastInDim S16384 ![] bcast_S_S16384 : (⟨S_, .i32⟩ : BufTy).Contents (Elt F) → (⟨S16384, .i32⟩ : BufTy).Contents (Elt F)),
    StableHlo.ternary main_v31 main_v38 main_v39 main_v40 ((fun x i u => Host.scatter scatter_S8192_S16384x1_S16384_n_0_0_1 IntOp.addi x i u) : (⟨S8192, .i32⟩ : BufTy).Contents (Elt F) → (⟨S16384x1, .i32⟩ : BufTy).Contents (Elt F) → (⟨S16384, .i32⟩ : BufTy).Contents (Elt F) → (⟨S8192, .i32⟩ : BufTy).Contents (Elt F)),
    StableHlo.nullary main_c_11 (constantI S_ 32 0#32),
    StableHlo.unary main_c_11 main_v41 (broadcastInDim S8192 ![] bcast_S_S8192 : (⟨S_, .i32⟩ : BufTy).Contents (Elt F) → (⟨S8192, .i32⟩ : BufTy).Contents (Elt F)),
    StableHlo.binary main_v40 main_v41 main_v42 (cmpi .sgt : (⟨S8192, .i32⟩ : BufTy).Contents (Elt F) → (⟨S8192, .i32⟩ : BufTy).Contents (Elt F) → (⟨S8192, .i1⟩ : BufTy).Contents (Elt F)),
    StableHlo.unary main_v42 main_v43 ((extui 32 · natLt_1_32) : (⟨S8192, .i1⟩ : BufTy).Contents (Elt F) → (⟨S8192, .i32⟩ : BufTy).Contents (Elt F)),
    StableHlo.nullary main_c_12 (constantI S_ 32 0#32),
    StableHlo.binary main_v43 main_c_12 main_v44 ((fun x v => Host.reduce IntOp.addi x v reducesTo_S8192_S_d0 h_S_) : (⟨S8192, .i32⟩ : BufTy).Contents (Elt F) → (⟨S_, .i32⟩ : BufTy).Contents (Elt F) → (⟨S_, .i32⟩ : BufTy).Contents (Elt F)) ]

theorem refCount_sub : (refCount : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.nullary_bufs_sub .., StableHlo.unary_bufs_sub .., StableHlo.ternary_bufs_sub .., StableHlo.nullary_bufs_sub .., StableHlo.unary_bufs_sub .., StableHlo.binary_bufs_sub .., StableHlo.unary_bufs_sub .., StableHlo.nullary_bufs_sub .., StableHlo.binary_bufs_sub ..⟩

/-- The references these operations write, in order. -/
abbrev refCount_W : List (Ref sig .tc) := [main_c_8, main_v33, main_v34, main_c_9, main_v35, main_v36, main_v37, main_v38, main_c_10, main_v39, main_v40, main_c_11, main_v41, main_v42, main_v43, main_c_12, main_v44]
theorem refCount_writes : (refCount : List (HloOp τ sig (Elt F))).Forall fun op => op.writes ⊆ (refCount_W.map (Proc.devRef (τ := τ) .tc)).toFinset :=
  StableHlo.forall_writes_sub_of_map rfl

/-- The 17 operations of the codebook usage and the perplexity, in order. -/
abbrev refStats : List (HloOp τ sig (Elt F)) :=
  [ StableHlo.unary main_v44 main_v45 (sitofp .f32 : (⟨S_, .i32⟩ : BufTy).Contents (Elt F) → (⟨S_, .f32⟩ : BufTy).Contents (Elt F)),
    StableHlo.nullary main_cst_13 (constant S_ .f32 0x46000000#32),
    StableHlo.binary main_v45 main_cst_13 main_v46 (Host.divf : (⟨S_, .f32⟩ : BufTy).Contents (Elt F) → (⟨S_, .f32⟩ : BufTy).Contents (Elt F) → (⟨S_, .f32⟩ : BufTy).Contents (Elt F)),
    StableHlo.unary main_v40 main_v47 (sitofp .f32 : (⟨S8192, .i32⟩ : BufTy).Contents (Elt F) → (⟨S8192, .f32⟩ : BufTy).Contents (Elt F)),
    StableHlo.nullary main_cst_14 (constant S_ .f32 0x46800000#32),
    StableHlo.unary main_cst_14 main_v48 (broadcastInDim S8192 ![] bcast_S_S8192 : (⟨S_, .f32⟩ : BufTy).Contents (Elt F) → (⟨S8192, .f32⟩ : BufTy).Contents (Elt F)),
    StableHlo.binary main_v47 main_v48 main_v49 (Host.divf : (⟨S8192, .f32⟩ : BufTy).Contents (Elt F) → (⟨S8192, .f32⟩ : BufTy).Contents (Elt F) → (⟨S8192, .f32⟩ : BufTy).Contents (Elt F)),
    StableHlo.nullary main_cst_15 (constant S_ .f32 0x2EDBE6FF#32),
    StableHlo.unary main_cst_15 main_v50 (broadcastInDim S8192 ![] bcast_S_S8192 : (⟨S_, .f32⟩ : BufTy).Contents (Elt F) → (⟨S8192, .f32⟩ : BufTy).Contents (Elt F)),
    StableHlo.binary main_v49 main_v50 main_v51 (addf : (⟨S8192, .f32⟩ : BufTy).Contents (Elt F) → (⟨S8192, .f32⟩ : BufTy).Contents (Elt F) → (⟨S8192, .f32⟩ : BufTy).Contents (Elt F)),
    StableHlo.unary main_v51 main_v52 (Host.log : (⟨S8192, .f32⟩ : BufTy).Contents (Elt F) → (⟨S8192, .f32⟩ : BufTy).Contents (Elt F)),
    StableHlo.binary main_v49 main_v52 main_v53 (mulf : (⟨S8192, .f32⟩ : BufTy).Contents (Elt F) → (⟨S8192, .f32⟩ : BufTy).Contents (Elt F) → (⟨S8192, .f32⟩ : BufTy).Contents (Elt F)),
    StableHlo.nullary main_cst_16 (constant S_ .f32 0x00000000#32),
    StableHlo.binary main_v53 main_cst_16 main_v54 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    StableHlo.unary main_v54 main_v55 (Host.negf : (⟨S_, .f32⟩ : BufTy).Contents (Elt F) → (⟨S_, .f32⟩ : BufTy).Contents (Elt F)),
    StableHlo.unary main_v55 main_v56 (Host.exp : (⟨S_, .f32⟩ : BufTy).Contents (Elt F) → (⟨S_, .f32⟩ : BufTy).Contents (Elt F)),
    StableHlo.reshape main_v16 main_v57 (rfl : (.i32 : EltTy) = .i32) shapeCasts_S16384_S16x32x32 ]

theorem refStats_sub : (refStats : List (HloOp τ sig (Elt F))).Forall fun op => op.bufs ⊆ StableHlo.tcRefs τ sig :=
  ⟨StableHlo.unary_bufs_sub .., StableHlo.nullary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub .., StableHlo.nullary_bufs_sub .., StableHlo.binary_bufs_sub .., StableHlo.unary_bufs_sub .., StableHlo.unary_bufs_sub .., StableHlo.reshape_bufs_sub ..⟩

/-- The references these operations write, in order. -/
abbrev refStats_W : List (Ref sig .tc) := [main_v45, main_cst_13, main_v46, main_v47, main_cst_14, main_v48, main_v49, main_cst_15, main_v50, main_v51, main_v52, main_v53, main_cst_16, main_v54, main_v55, main_v56, main_v57]
theorem refStats_writes : (refStats : List (HloOp τ sig (Elt F))).Forall fun op => op.writes ⊆ (refStats_W.map (Proc.devRef (τ := τ) .tc)).toFinset :=
  StableHlo.forall_writes_sub_of_map rfl

/-- @main's operations, in order. -/
abbrev ops : List (HloOp τ sig (Elt F)) :=
  refDist ++ (refArgmin ++ (refTake ++ (refLoss ++ (refClip ++ (refCount ++ refStats)))))

set_option maxRecDepth 100000 in
set_option maxHeartbeats 4000000 in
/-- @main is that straight line. -/
theorem main_eq (c : Dev nD) : main (F := F) c = StableHlo.seq ops := rfl

/-- Nothing is scoped on this signature. -/
theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ StableHlo.tcRefs τ sig := by
  simp only [ops, List.forall_append]
  exact ⟨refDist_sub, refArgmin_sub, refTake_sub, refLoss_sub, refClip_sub, refCount_sub, refStats_sub⟩

set_option maxHeartbeats 4000000 in
/-- From any memory with zero counters every fair execution of @main terminates, and every buffer ends at the operations'
    results folded over what it held at the launch. -/
theorem run_ops (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b)
        = StableHlo.after ops (StableHlo.launchContents m d) (Proc.devRef .tc b) :=
  StableHlo.run_seq scopedRefs_eq scopedSems_eq defs main (fun _ => ops) main_eq (fun _ => ops_sub) m ρ

/-- A buffer no operation writes keeps its contents. -/
theorem keeps (V : Valuation τ sig (Elt F)) {r : Ref sig .tc} (hr : r ∉ refDist_W ++ refArgmin_W ++ refTake_W ++ refLoss_W ++ refClip_W ++ refCount_W ++ refStats_W) :
    StableHlo.after ops V (Proc.devRef .tc r) = V (Proc.devRef .tc r) := by
  simp only [List.mem_append, not_or] at hr
  obtain ⟨⟨⟨⟨⟨⟨h1, h2⟩, h3⟩, h4⟩, h5⟩, h6⟩, h7⟩ := hr
  simp only [ops, StableHlo.after_append]
  rw [StableHlo.after_of_writes_sub refStats _ refStats_writes h7, StableHlo.after_of_writes_sub refCount _ refCount_writes h6,
    StableHlo.after_of_writes_sub refClip _ refClip_writes h5, StableHlo.after_of_writes_sub refLoss _ refLoss_writes h4,
    StableHlo.after_of_writes_sub refTake _ refTake_writes h3, StableHlo.after_of_writes_sub refArgmin _ refArgmin_writes h2,
    StableHlo.after_of_writes_sub refDist _ refDist_writes h1]

/-- The frame: @main terminates, both argument arrays end unchanged, and every counter is zero. -/
theorem frame (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0 :=
  (θ_run defs _ _).mono (fun _ h => ⟨fun c => ⟨(h c main_arg0).trans (keeps _ (by decide)), (h c main_arg1).trans (keeps _ (by decide))⟩,
    funext fun x => nomatch x.2⟩) (run_ops m ρ)

end Cert.Proof.Ref

end
-- ==== Proof.Argmin.lean ====
/-
  The mathematics of "the first index of a smallest entry", with nothing of either program in it: the predicate, that it
  determines the index, that two neighbouring ranges merge by one strict comparison, and that the three folds the programs
  use (a running minimum, a running least index, a running lexicographically least pair) establish it.
-/
module

public import Idealize.ShloMosaic.PureOps.Reduce
public import Idealize.ShloMosaic.PureOps.Ideal.Laws
public import Idealize.ShloMosaic.Lib.ValueIdx
public import Idealize.ShloMosaic.Lib.ValueIdxCoords

@[expose] public section

noncomputable section

namespace Cert.Proof.Argmin

open Idealize.ShloMosaic Idealize.ShloMosaic.ValueIdx

/-- `v` is the smallest of the entries `f k` with `lo ≤ k < hi`, and `i` is the 32-bit word of the first `k` it is taken at. -/
def First (f : Fin 8192 → EReal) (lo hi : Nat) (v : EReal) (i : BitVec 32) : Prop :=
  ∃ k : Fin 8192, lo ≤ k.val ∧ k.val < hi ∧ v = f k ∧ i = BitVec.ofNat 32 k.val
    ∧ ∀ j : Fin 8192, lo ≤ j.val → j.val < hi → f k < f j ∨ (f k = f j ∧ k.val ≤ j.val)

/-- The smallest entry and its first index are determined. -/
theorem First.unique {f : Fin 8192 → EReal} {lo hi : Nat} {v v' : EReal} {i i' : BitVec 32}
    (h : First f lo hi v i) (h' : First f lo hi v' i') : i = i' := by
  obtain ⟨k, h1, h2, -, rfl, h3⟩ := h
  obtain ⟨k', h1', h2', -, rfl, h3'⟩ := h'
  have : k.val = k'.val := by
    rcases h3 k' h1' h2' with a | ⟨a, b⟩
    · rcases h3' k h1 h2 with c | ⟨c, _⟩
      · exact absurd (a.trans c) (lt_irrefl _)
      · exact absurd a (by rw [c]; exact lt_irrefl _)
    · rcases h3' k h1 h2 with c | ⟨_, d⟩
      · exact absurd c (by rw [a]; exact lt_irrefl _)
      · omega
  rw [this]

/-- Two neighbouring ranges merge: the second one's entry and index replace the first one's exactly where it is strictly
    smaller. -/
theorem First.merge {f : Fin 8192 → EReal} {a b c : Nat} {v v' : EReal} {i i' : BitVec 32} (hab : a ≤ b) (hbc : b ≤ c)
    (h : First f a b v i) (h' : First f b c v' i') :
    First f a c (Scalar.select (FloatOps.cmpf (F := Ideal) (φ := .f32) .olt v' v) v' v)
      (Scalar.select (FloatOps.cmpf (F := Ideal) (φ := .f32) .olt v' v) i' i) := by
  obtain ⟨k, h1, h2, hv, hi, h3⟩ := h
  obtain ⟨k', h1', h2', hv', hi', h3'⟩ := h'
  have hc : FloatOps.cmpf (F := Ideal) (φ := .f32) .olt v' v = BitVec.ofBool (decide (v' < v)) := rfl
  rw [hc]
  by_cases hlt : v' < v
  · rw [decide_eq_true hlt]
    refine ⟨k', by omega, h2', hv', hi', fun j hj1 hj2 => ?_⟩
    by_cases hjb : j.val < b
    · left
      rcases h3 j hj1 hjb with x | ⟨x, _⟩
      · exact lt_trans (hv ▸ hv' ▸ hlt) x
      · exact x ▸ hv ▸ hv' ▸ hlt
    · exact h3' j (by omega) hj2
  · rw [decide_eq_false hlt]
    refine ⟨k, h1, by omega, hv, hi, fun j hj1 hj2 => ?_⟩
    by_cases hjb : j.val < b
    · exact h3 j hj1 hjb
    · have hle : f k ≤ f k' := hv ▸ hv' ▸ not_lt.mp hlt
      rcases h3' j (by omega) hj2 with x | ⟨x, _⟩
      · exact .inl (lt_of_le_of_lt hle x)
      · rcases lt_or_eq_of_le hle with y | y
        · exact .inl (x ▸ y)
        · exact .inr ⟨y.trans x, by omega⟩

/-- A fold of an operation that returns one of its two operands, and the lesser one in a preorder, returns the initial
    value or one of the entries, and is below all of them. -/
theorem foldl_least {α β : Type} (op : α → α → α) (le : α → α → Prop) (hr : ∀ a, le a a)
    (ht : ∀ a b c, le a b → le b c → le a c) (hop : ∀ a b, (op a b = a ∨ op a b = b) ∧ le (op a b) a ∧ le (op a b) b)
    (g : β → α) (l : List β) : ∀ init : α,
    (l.foldl (fun r x => op r (g x)) init = init ∨ ∃ x ∈ l, l.foldl (fun r x => op r (g x)) init = g x)
      ∧ le (l.foldl (fun r x => op r (g x)) init) init ∧ ∀ x ∈ l, le (l.foldl (fun r x => op r (g x)) init) (g x) := by
  induction l with
  | nil => exact fun init => ⟨.inl rfl, hr _, fun x hx => absurd hx List.not_mem_nil⟩
  | cons y l ih =>
    intro init
    obtain ⟨h1, h2, h3⟩ := ih (op init (g y))
    obtain ⟨o1, o2, o3⟩ := hop init (g y)
    simp only [List.foldl_cons]
    refine ⟨?_, ht _ _ _ h2 o2, fun x hx => ?_⟩
    · rcases h1 with h1 | ⟨x, hx, h1⟩
      · rcases o1 with o1 | o1
        · exact .inl (h1.trans o1)
        · exact .inr ⟨y, List.mem_cons_self, h1.trans o1⟩
      · exact .inr ⟨x, List.mem_cons_of_mem _ hx, h1⟩
    · rcases List.mem_cons.mp hx with rfl | hx
      · exact ht _ _ _ h2 o3
      · exact h3 x hx

/-- The running minimum of the programs. -/
theorem minf_least (a b : EReal) : (FloatOps.minimumf (F := Ideal) (φ := .f32) a b = a ∨ FloatOps.minimumf (F := Ideal) (φ := .f32) a b = b)
    ∧ FloatOps.minimumf (F := Ideal) (φ := .f32) a b ≤ a ∧ FloatOps.minimumf (F := Ideal) (φ := .f32) a b ≤ b :=
  ⟨min_choice a b, min_le_left a b, min_le_right a b⟩

/-- The running least signed word. -/
theorem minsi_least (a b : BitVec 32) : (IKind.op .minsi a b = a ∨ IKind.op .minsi a b = b)
    ∧ (IKind.op .minsi a b).toInt ≤ a.toInt ∧ (IKind.op .minsi a b).toInt ≤ b.toInt := by
  show ((if a.slt b then a else b) = a ∨ (if a.slt b then a else b) = b) ∧ (if a.slt b then a else b).toInt ≤ a.toInt
    ∧ (if a.slt b then a else b).toInt ≤ b.toInt
  by_cases h : a.slt b
  · rw [if_pos h]
    have := BitVec.slt_iff_toInt_lt.mp h
    exact ⟨.inl rfl, le_refl _, this.le⟩
  · rw [if_neg h]
    have : ¬ a.toInt < b.toInt := fun h' => h (BitVec.slt_iff_toInt_lt.mpr h')
    exact ⟨.inr rfl, not_lt.mp this, le_refl _⟩

/-- A small number's word, read signed, is that number. -/
theorem toInt_word {n : Nat} (h : n ≤ 8192) : (BitVec.ofNat 32 n).toInt = n := by
  rw [BitVec.toInt_eq_toNat_cond, BitVec.toNat_ofNat, Nat.mod_eq_of_lt (by omega)]
  rw [if_pos (by omega)]

/-- The printed bits of the running minimum's start are plus infinity. -/
theorem ofBits_inf : Ideal.ofBits .f32 0x7F800000#32 = ⊤ := by simp [Ideal.ofBits, Ideal.ieee]

/-- A column of 1024 entries starting at entry `off`: the running minimum from plus infinity, and the running least of
    "the entry's own index where it equals that minimum, 8192 elsewhere", are the smallest entry and its first index. -/
theorem First.of_column {f : Fin 8192 → EReal} (off : Nat) (hoff : off + 1024 ≤ 8192) (g : Fin 1024 → EReal)
    (hg : ∀ r : Fin 1024, g r = f ⟨off + r.val, by omega⟩) (h : Fin 1024 → BitVec 32) (m : EReal)
    (hm : m = (List.finRange 1024).foldl (fun acc r => FloatOps.minimumf (F := Ideal) (φ := .f32) acc (g r)) ⊤)
    (hh : ∀ r, h r = if g r = m then BitVec.ofNat 32 (off + r.val) else 8192#32) :
    First f off (off + 1024) m ((List.finRange 1024).foldl (fun acc r => IKind.op .minsi acc (h r)) 2147483647#32) := by
  obtain ⟨a1, -, a3⟩ := foldl_least (FloatOps.minimumf (F := Ideal) (φ := .f32)) (· ≤ ·) le_refl
    (fun _ _ _ => le_trans) minf_least g (List.finRange 1024) ⊤
  rw [← hm] at a1 a3
  obtain ⟨b1, -, b3⟩ := foldl_least (IKind.op .minsi) (fun a b => a.toInt ≤ b.toInt) (fun _ => le_refl _)
    (fun _ _ _ => le_trans) minsi_least h (List.finRange 1024) 2147483647#32
  generalize (List.finRange 1024).foldl (fun acc r => IKind.op .minsi acc (h r)) 2147483647#32 = s at b1 b3
  obtain ⟨r0, hr0⟩ : ∃ r, g r = m := by
    rcases a1 with a1 | ⟨x, _, a1⟩
    · exact ⟨0, top_le_iff.mp (a1 ▸ a3 0 (List.mem_finRange _)) |>.trans a1.symm⟩
    · exact ⟨x, a1.symm⟩
  have hs0 : s.toInt ≤ (off + r0.val : Nat) := by
    have := b3 r0 (List.mem_finRange _)
    rwa [hh, if_pos hr0, toInt_word (by omega)] at this
  obtain ⟨r, hr⟩ : ∃ r, s = h r := by
    rcases b1 with b1 | ⟨x, _, b1⟩
    · exfalso
      rw [b1] at hs0
      have : (2147483647#32).toInt = 2147483647 := by decide
      omega
    · exact ⟨x, b1⟩
  have hrm : g r = m := by
    by_contra hne
    rw [hr, hh, if_neg hne] at hs0
    have : (8192#32).toInt = 8192 := by decide
    omega
  refine ⟨⟨off + r.val, by omega⟩, by simp, by simp, (hg r).symm.trans hrm |>.symm, by rw [hr, hh, if_pos hrm], fun j hj1 hj2 => ?_⟩
  obtain ⟨r', rfl⟩ : ∃ r' : Fin 1024, j = ⟨off + r'.val, (Nat.add_lt_add_left r'.isLt off).trans_le hoff⟩ := ⟨⟨j.val - off, by omega⟩, Fin.ext (by simp; omega)⟩
  rw [← hg r, ← hg r', hrm]
  rcases lt_or_eq_of_le (a3 r' (List.mem_finRange _)) with x | x
  · exact .inl x
  · refine .inr ⟨x, ?_⟩
    have := b3 r' (List.mem_finRange _)
    rw [hr, hh, hh, if_pos hrm, if_pos x.symm, toInt_word (by omega), toInt_word (by omega)] at this
    simp only
    omega

end Cert.Proof.Argmin

end
-- ==== Proof.Block.lean ====
/-
  What one block of the kernel computes: eight sub-blocks of 1024 code rows, each giving a smallest distance and the row it is
  first taken at, merged by strict comparisons. At every column the word stored is the first index of the smallest of all
  8192 distances.
-/
module

public import proofs.«01_k».proof.Proof.Argmin
public import proofs.«01_k».proof.Proof.Gen.KernelIdeal.Frame
public import Idealize.ShloMosaic.Lib.Pipeline.Value

@[expose] public section

set_option synthInstance.maxSize 4096

noncomputable section

namespace Cert.Proof.Block

open Cert.KernelIdeal Cert.KernelIdeal.Gen Cert.Proof.Argmin
open Idealize.ShloMosaic Idealize.ShloMosaic.ValueIdx

/-- The distances of one sub-block: code row `r` against position `p`. -/
def dmat (z : FVec Ideal S256x1024 .bf16) (zs : FVec Ideal S1x1024 .f32) (ws : Vec Ideal S1024x1 .f32)
    (wh wl : Vec Ideal S1024x256 .bf16) : FVec Ideal S1024x1024 .f32 :=
  subf (addf (broadcastTo S1024x1024 zs broadcasts_S1x1024_S1024x1024)
      (broadcastTo S1024x1024 (shapeCast S1024x1 ws shapeCasts_S1024x1_S1024x1 : FVec Ideal S1024x1 .f32) broadcasts_S1024x1_S1024x1024))
    (addf (matmul dot_S1024x256_S256x1024_S1024x1024_1_0_0_1_n_n none
        (shapeCast S1024x256 wh shapeCasts_S1024x256_S1024x256 : FVec Ideal S1024x256 .bf16) z (constant S1024x1024 .f32 0x00000000#32))
      (matmul dot_S1024x256_S256x1024_S1024x1024_1_0_0_1_n_n none
        (shapeCast S1024x256 wl shapeCasts_S1024x256_S1024x256 : FVec Ideal S1024x256 .bf16) z (constant S1024x1024 .f32 0x00000000#32)))

/-- The smallest distance of each column of a sub-block. -/
def smin (d : FVec Ideal S1024x1024 .f32) : FVec Ideal S1x1024 .f32 :=
  shapeCast S1x1024 (multiReduction .minimumf [0] S1024 d 0x7F800000#32 reduces_S1024x1024_S1024 (.inl rfl) rfl) shapeCasts_S1024_S1x1024

/-- Each row's own number, counted from the sub-block's first row `off`, where its distance is its column's smallest, and
    8192 elsewhere. -/
def cand (off : BitVec 32) (d : FVec Ideal S1024x1024 .f32) : IVec S1024x1024 32 :=
  select (cmpf .oeq d (broadcastTo S1024x1024 (smin d) broadcasts_S1x1024_S1024x1024))
    (addi (iota .tc S1024x1024 32 [0] iota_S1024x1024_d0_w32) (broadcast S1024x1024 off)) (broadcast S1024x1024 8192#32)

/-- The row it is first taken at. -/
def sarg (off : BitVec 32) (d : FVec Ideal S1024x1024 .f32) : IVec S1x1024 32 :=
  shapeCast S1x1024 (multiReductionI .minsi [0] S1024 (cand off d) 2147483647#32 reduces_S1024x1024_S1024 rfl) shapeCasts_S1024_S1x1024

/-- A running smallest value after one more sub-block. -/
def stepV (v : FVec Ideal S1x1024 .f32) (v' : FVec Ideal S1x1024 .f32) : FVec Ideal S1x1024 .f32 :=
  select (cmpf .olt v' v) v' v

/-- A running first index after one more sub-block. -/
def stepI (v : FVec Ideal S1x1024 .f32) (i : IVec S1x1024 32) (v' : FVec Ideal S1x1024 .f32) (i' : IVec S1x1024 32) : IVec S1x1024 32 :=
  select (cmpf .olt v' v) i' i

/-- The smallest value of a window of four sub-blocks. -/
def winV (d0 d1 d2 d3 : FVec Ideal S1024x1024 .f32) : FVec Ideal S1x1024 .f32 :=
  stepV (stepV (stepV (smin d0) (smin d1)) (smin d2)) (smin d3)

/-- The first index of it; `o0 … o3` are the sub-blocks' first rows. -/
def winI (o0 o1 o2 o3 : BitVec 32) (d0 d1 d2 d3 : FVec Ideal S1024x1024 .f32) : IVec S1x1024 32 :=
  stepI (stepV (stepV (smin d0) (smin d1)) (smin d2))
    (stepI (stepV (smin d0) (smin d1)) (stepI (smin d0) (sarg o0 d0) (smin d1) (sarg o1 d1)) (smin d2) (sarg o2 d2)) (smin d3) (sarg o3 d3)

/-- The block's index: the two windows merged; `o0 … o7` are the sub-blocks' first rows. -/
def blockI (o0 o1 o2 o3 o4 o5 o6 o7 : BitVec 32) (d0 d1 d2 d3 d4 d5 d6 d7 : FVec Ideal S1024x1024 .f32) : IVec S1x1024 32 :=
  stepI (winV d0 d1 d2 d3) (winI o0 o1 o2 o3 d0 d1 d2 d3)
    (winV d4 d5 d6 d7) (winI o4 o5 o6 o7 d4 d5 d6 d7)

/-- A fold down the columns, read at column `p`. -/
theorem fold_col {α : Type} (op : α → α → α) (init : α) (x : S1024x1024.Idx → α) (p : Fin 1024) :
    reduceFold reduces_S1024x1024_S1024 op init x (fun a => ix2 (0 : Fin 1) p a.succ)
      = (List.finRange 1024).foldl (fun acc r => op acc (x (ix2 r p))) init := by
  refine (reduceFold_rows reduces_S1024x1024_S1024 op init x _).trans ?_
  show (List.finRange 1024).foldl _ init = _
  congr 1
  funext acc r
  congr 2
  funext b
  match b with
  | ⟨0, _⟩ => rfl
  | ⟨1, _⟩ => rfl

/-- The smallest distance at a column, as a fold down it. -/
theorem smin_apply (d : FVec Ideal S1024x1024 .f32) (p : Fin 1024) :
    smin d (ix2 0 p) = (List.finRange 1024).foldl (fun acc r => FloatOps.minimumf (F := Ideal) (φ := .f32) acc (d (ix2 r p))) ⊤ := by
  rw [← ofBits_inf]
  exact (shapeCast_addUnit_apply _ _ _ _).trans (fold_col (FloatOps.minimumf (F := Ideal) (φ := .f32)) _ d p)

/-- The sub-block: when its column `p` is the entries `f` from row `off` on, its value and index are the smallest and its
    first index. -/
theorem first_sub {f : Fin 8192 → EReal} (d : FVec Ideal S1024x1024 .f32) (p : Fin 1024) (off : Nat) (hoff : off + 1024 ≤ 8192)
    (hd : ∀ r : Fin 1024, d (ix2 r p) = f ⟨off + r.val, by omega⟩) :
    First f off (off + 1024) (smin d (ix2 0 p)) (sarg (BitVec.ofNat 32 off) d (ix2 0 p)) := by
  have e : sarg (BitVec.ofNat 32 off) d (ix2 0 p) = (List.finRange 1024).foldl (fun acc r => IKind.op .minsi acc
      (cand (BitVec.ofNat 32 off) d (ix2 r p)))
      2147483647#32 :=
    (shapeCast_addUnit_apply _ _ _ _).trans (fold_col (IKind.op .minsi) _ _ p)
  rw [e]
  refine First.of_column off hoff (fun r => d (ix2 r p)) hd _ _ (smin_apply d p) fun r => ?_
  have hb : broadcastTo S1024x1024 (smin d) broadcasts_S1x1024_S1024x1024 (ix2 r p) = smin d (ix2 0 p) :=
    broadcastTo_apply _ _ _ _ fun a => match a with
      | ⟨0, _⟩ => rfl
      | ⟨1, _⟩ => rfl
  have hi : (addi (iota .tc S1024x1024 32 [0] iota_S1024x1024_d0_w32) (broadcast S1024x1024 (BitVec.ofNat 32 off))) (ix2 r p)
      = BitVec.ofNat 32 (off + r.val) := by
    show iota .tc S1024x1024 32 [0] iota_S1024x1024_d0_w32 (ix2 r p) + BitVec.ofNat 32 off = _
    rw [iota_single_apply, ix2_0, Nat.add_comm, BitVec.ofNat_add]
  unfold cand
  rw [select_apply, cmpf_apply, hb, hi]
  show Scalar.select (BitVec.ofBool (decide (d (ix2 r p) = smin d (ix2 0 p)))) _ (8192#32) = if d (ix2 r p) = smin d (ix2 0 p) then _ else _
  by_cases h : d (ix2 r p) = smin d (ix2 0 p)
  · rw [decide_eq_true h, if_pos h]; rfl
  · rw [decide_eq_false h, if_neg h]; rfl

/-- Two neighbouring ranges merge, at a column. -/
theorem first_merge {f : Fin 8192 → EReal} {a b c : Nat} {v v' : FVec Ideal S1x1024 .f32} {i i' : IVec S1x1024 32} (x : S1x1024.Idx)
    (hab : a ≤ b) (hbc : b ≤ c) (h : First f a b (v x) (i x)) (h' : First f b c (v' x) (i' x)) :
    First f a c (stepV v v' x) (stepI v i v' i' x) :=
  First.merge hab hbc h h'

/-- One more sub-block, from row `m` up to row `n`, merged into a running smallest value and first index of the rows before. -/
theorem first_step {f : Fin 8192 → EReal} {lo m n : Nat} {v : FVec Ideal S1x1024 .f32} {i : IVec S1x1024 32} (p : Fin 1024)
    (d : FVec Ideal S1024x1024 .f32) (hlo : lo ≤ m) (hn : n = m + 1024) (h8 : m + 1024 ≤ 8192)
    (h : First f lo m (v (ix2 0 p)) (i (ix2 0 p)))
    (hd : ∀ r : Fin 1024, d (ix2 r p) = f ⟨m + r.val, by omega⟩) :
    First f lo n (stepV v (smin d) (ix2 0 p)) (stepI v i (smin d) (sarg (BitVec.ofNat 32 m) d) (ix2 0 p)) := by
  subst hn
  exact first_merge _ hlo (Nat.le_add_right m 1024) h (first_sub d p m h8 hd)

/-- A window of four sub-blocks. -/
theorem first_win {f : Fin 8192 → EReal} (d0 d1 d2 d3 : FVec Ideal S1024x1024 .f32) (p : Fin 1024) {o0 o1 o2 o3 o4 : Nat}
    (e1 : o1 = o0 + 1024) (e2 : o2 = o1 + 1024) (e3 : o3 = o2 + 1024) (e4 : o4 = o3 + 1024) (he : o4 ≤ 8192)
    (h0 : ∀ r : Fin 1024, d0 (ix2 r p) = f ⟨o0 + r.val, by omega⟩)
    (h1 : ∀ r : Fin 1024, d1 (ix2 r p) = f ⟨o1 + r.val, by omega⟩)
    (h2 : ∀ r : Fin 1024, d2 (ix2 r p) = f ⟨o2 + r.val, by omega⟩)
    (h3 : ∀ r : Fin 1024, d3 (ix2 r p) = f ⟨o3 + r.val, by omega⟩) :
    First f o0 o4 (winV d0 d1 d2 d3 (ix2 0 p))
      (winI (BitVec.ofNat 32 o0) (BitVec.ofNat 32 o1) (BitVec.ofNat 32 o2) (BitVec.ofNat 32 o3) d0 d1 d2 d3 (ix2 0 p)) := by
  have s0 := first_sub d0 p o0 (by omega) h0
  rw [← e1] at s0
  have s1 := first_step p d1 (by omega) e2 (by omega) s0 h1
  have s2 := first_step p d2 (by omega) e3 (by omega) s1 h2
  exact first_step p d3 (by omega) e4 (by omega) s2 h3

/-- The block: the stored word of column `p` is the first index of the smallest of all 8192 entries. -/
theorem first_block {f : Fin 8192 → EReal} (d0 d1 d2 d3 d4 d5 d6 d7 : FVec Ideal S1024x1024 .f32) (p : Fin 1024)
    {o0 o1 o2 o3 o4 o5 o6 o7 o8 : Nat} (e1 : o1 = o0 + 1024) (e2 : o2 = o1 + 1024) (e3 : o3 = o2 + 1024) (e4 : o4 = o3 + 1024)
    (e5 : o5 = o4 + 1024) (e6 : o6 = o5 + 1024) (e7 : o7 = o6 + 1024) (e8 : o8 = o7 + 1024) (he : o8 ≤ 8192)
    (h0 : ∀ r : Fin 1024, d0 (ix2 r p) = f ⟨o0 + r.val, by omega⟩)
    (h1 : ∀ r : Fin 1024, d1 (ix2 r p) = f ⟨o1 + r.val, by omega⟩)
    (h2 : ∀ r : Fin 1024, d2 (ix2 r p) = f ⟨o2 + r.val, by omega⟩)
    (h3 : ∀ r : Fin 1024, d3 (ix2 r p) = f ⟨o3 + r.val, by omega⟩)
    (h4 : ∀ r : Fin 1024, d4 (ix2 r p) = f ⟨o4 + r.val, by omega⟩)
    (h5 : ∀ r : Fin 1024, d5 (ix2 r p) = f ⟨o5 + r.val, by omega⟩)
    (h6 : ∀ r : Fin 1024, d6 (ix2 r p) = f ⟨o6 + r.val, by omega⟩)
    (h7 : ∀ r : Fin 1024, d7 (ix2 r p) = f ⟨o7 + r.val, by omega⟩) :
    ∃ v, First f o0 o8 v (blockI (BitVec.ofNat 32 o0) (BitVec.ofNat 32 o1) (BitVec.ofNat 32 o2) (BitVec.ofNat 32 o3)
      (BitVec.ofNat 32 o4) (BitVec.ofNat 32 o5) (BitVec.ofNat 32 o6) (BitVec.ofNat 32 o7) d0 d1 d2 d3 d4 d5 d6 d7 (ix2 0 p)) := by
  have w1 := first_win d0 d1 d2 d3 p e1 e2 e3 e4 (by omega) h0 h1 h2 h3
  have w2 := first_win d4 d5 d6 d7 p e5 e6 e7 e8 he h4 h5 h6 h7
  exact ⟨_, first_merge _ (by omega) (by omega) w1 w2⟩

end Cert.Proof.Block

end
-- ==== Proof.Payload.lean ====
/-
  What the kernel's body stores, value by value: each named value of the body is one of a sub-block's distances, smallest
  values, first indices or merges, so the stored block is the merged index of the eight sub-blocks.
-/
module

public import proofs.«01_k».proof.Proof.Block

@[expose] public section

set_option synthInstance.maxSize 4096

noncomputable section

namespace Cert.Proof.Block

open Cert.KernelIdeal Cert.KernelIdeal.Gen
open Idealize.ShloMosaic

/-! The distances of the eight sub-blocks, as the body computes them. -/

theorem pay4 (v0 : Vec Ideal S1x256x1024 .bf16) (v2 : Vec Ideal S1x1x1024 .f32) (a : Vec Ideal S1024x1 .f32) (b c : Vec Ideal S1024x256 .bf16) :
    k0_pay4 v0 v2 a b c = dmat (k0_pay2 v0) (k0_pay3 v2) a b c := rfl
theorem pay9 (v0 : Vec Ideal S1x256x1024 .bf16) (v3 : FVec Ideal S1x1024 .f32) (a : Vec Ideal S1024x1 .f32) (b c : Vec Ideal S1024x256 .bf16) :
    k0_pay9 (k0_pay2 v0) v3 (k0_pay7 a) (k0_pay8 v0 b) c = dmat (k0_pay2 v0) v3 a b c := rfl
theorem pay14 (v1 : FVec Ideal S256x1024 .bf16) (v3 : FVec Ideal S1x1024 .f32) (a : Vec Ideal S1024x1 .f32) (b c : Vec Ideal S1024x256 .bf16) :
    k0_pay14 v1 v3 a b c = dmat v1 v3 a b c := rfl
theorem pay19 (v1 : FVec Ideal S256x1024 .bf16) (v3 : FVec Ideal S1x1024 .f32) (a : Vec Ideal S1024x1 .f32) (b c : Vec Ideal S1024x256 .bf16) :
    k0_pay19 v1 v3 a b c = dmat v1 v3 a b c := rfl
theorem pay29 (v1 : FVec Ideal S256x1024 .bf16) (v3 : FVec Ideal S1x1024 .f32) (a : Vec Ideal S1024x1 .f32) (b c : Vec Ideal S1024x256 .bf16) :
    k0_pay29 v1 v3 a b c = dmat v1 v3 a b c := rfl
theorem pay34 (v1 : FVec Ideal S256x1024 .bf16) (v3 : FVec Ideal S1x1024 .f32) (a : Vec Ideal S1024x1 .f32) (b c : Vec Ideal S1024x256 .bf16) :
    k0_pay34 v1 v3 a b c = dmat v1 v3 a b c := rfl
theorem pay27 (v1 : FVec Ideal S256x1024 .bf16) (v3 : FVec Ideal S1x1024 .f32) (a : Vec Ideal S1024x1 .f32) (b c : Vec Ideal S1024x256 .bf16) :
    k0_pay27 v1 v3 (k0_pay24 a) (k0_pay25 v1 b) (k0_pay26 c) = dmat v1 v3 a b c := rfl
theorem pay3940 (v1 : FVec Ideal S256x1024 .bf16) (v3 : FVec Ideal S1x1024 .f32) (a : Vec Ideal S1024x1 .f32) (b c : Vec Ideal S1024x256 .bf16) :
    subf (k0_pay39 v3 a) (k0_pay40 v1 b c) = dmat v1 v3 a b c := rfl

/-! The values between them. -/

section
variable (v0 : Vec Ideal S1x256x1024 .bf16) (v2 : Vec Ideal S1x1x1024 .f32) (v1 : FVec Ideal S256x1024 .bf16) (v3 : FVec Ideal S1x1024 .f32)
  (a a' : Vec Ideal S1024x1 .f32) (b c b' c' : Vec Ideal S1024x256 .bf16) (v w : FVec Ideal S1x1024 .f32) (i : IVec S1x1024 32)
  (e : FVec Ideal S1024x1 .f32) (h : FVec Ideal S1024x1024 .f32) (g : FVec Ideal S1024x256 .bf16) (d d' : FVec Ideal S1024x1024 .f32)

theorem pay5 : k0_pay5 v0 v2 a b c = smin (k0_pay4 v0 v2 a b c) := rfl
theorem pay6 : k0_pay6 v0 v2 a b c = sarg 0#32 (k0_pay4 v0 v2 a b c) := rfl
theorem pay12 : k0_pay12 v1 v3 v i e h c = stepI v i (smin (k0_pay9 v1 v3 e h c)) (sarg 1024#32 (k0_pay9 v1 v3 e h c)) := rfl
theorem pay13 : k0_pay13 v1 v3 v e h c = stepV v (smin (k0_pay9 v1 v3 e h c)) := rfl
theorem pay15 : k0_pay15 v1 v3 a b c = smin (k0_pay14 v1 v3 a b c) := rfl
theorem pay16 : k0_pay16 v1 v3 a b c = cand 2048#32 (k0_pay14 v1 v3 a b c) := rfl
theorem pay22 : k0_pay22 v1 v3 i v w (cand 2048#32 d) a b c
    = stepI (stepV v w) (stepI v i w (sarg 2048#32 d)) (smin (k0_pay19 v1 v3 a b c)) (sarg 3072#32 (k0_pay19 v1 v3 a b c)) := rfl
theorem pay23 : k0_pay23 v1 v3 v w a b c = stepV (stepV v w) (smin (k0_pay19 v1 v3 a b c)) := rfl
theorem pay28 : k0_pay28 v1 v3 e h g = smin (k0_pay27 v1 v3 e h g) := rfl
theorem pay30 : k0_pay30 v1 v3 a b c = smin (k0_pay29 v1 v3 a b c) := rfl
theorem pay31 : k0_pay31 v1 v3 e h g a b c = cmpf .olt (smin (k0_pay29 v1 v3 a b c)) (smin (k0_pay27 v1 v3 e h g)) := rfl
theorem pay32 : k0_pay32 v1 v3 e h g a b c = stepI (smin (k0_pay27 v1 v3 e h g)) (sarg 4096#32 (k0_pay27 v1 v3 e h g))
    (smin (k0_pay29 v1 v3 a b c)) (sarg 5120#32 (k0_pay29 v1 v3 a b c)) := rfl
theorem pay37 : k0_pay37 v1 v3 v w (cmpf .olt w v) i a b c
    = stepI (stepV v w) i (smin (k0_pay34 v1 v3 a b c)) (sarg 6144#32 (k0_pay34 v1 v3 a b c)) := rfl
theorem pay38 : k0_pay38 v1 v3 v w (cmpf .olt w v) a b c = stepV (stepV v w) (smin (k0_pay34 v1 v3 a b c)) := rfl
theorem pay1 (i' : IVec S1x1024 32) : k0_pay1 i v i' w d d' = shapeCast S1x1x1024
    (stepI v i (stepV w (smin (subf d d'))) (stepI w i' (smin (subf d d')) (sarg 7168#32 (subf d d')))) shapeCasts_S1x1024_S1x1x1024 := rfl
end

/-- The stored block, over the kernel's five operand blocks: the merged index of the eight sub-blocks. -/
theorem out_eq (x0 : Vec Ideal S1x256x1024 .bf16) (x1 : Vec Ideal S1x1x1024 .f32) (x2 x3 : Vec Ideal S8192x256 .bf16) (x4 : Vec Ideal S8192x1 .f32) :
    out0_5 x0 x1 x2 x3 x4 = View.canon [⟨r0_1, shapeCast S1x1x1024
      (blockI 0#32 1024#32 2048#32 3072#32 4096#32 5120#32 6144#32 7168#32
        (dmat (k0_pay2 (View.ld x0 r0_0)) (k0_pay3 (View.ld x1 r0_1)) (View.ld x4 r0_2) (View.ld x2 r0_3) (View.ld x3 r0_3))
        (dmat (k0_pay2 (View.ld x0 r0_0)) (k0_pay3 (View.ld x1 r0_1)) (View.ld x4 r0_4) (View.ld x2 r0_5) (View.ld x3 r0_5))
        (dmat (k0_pay2 (View.ld x0 r0_0)) (k0_pay3 (View.ld x1 r0_1)) (View.ld x4 r0_6) (View.ld x2 r0_7) (View.ld x3 r0_7))
        (dmat (k0_pay2 (View.ld x0 r0_0)) (k0_pay3 (View.ld x1 r0_1)) (View.ld x4 r0_8) (View.ld x2 r0_9) (View.ld x3 r0_9))
        (dmat (k0_pay2 (View.ld x0 r0_0)) (k0_pay3 (View.ld x1 r0_1)) (View.ld x4 r0_10) (View.ld x2 r0_11) (View.ld x3 r0_11))
        (dmat (k0_pay2 (View.ld x0 r0_0)) (k0_pay3 (View.ld x1 r0_1)) (View.ld x4 r0_12) (View.ld x2 r0_13) (View.ld x3 r0_13))
        (dmat (k0_pay2 (View.ld x0 r0_0)) (k0_pay3 (View.ld x1 r0_1)) (View.ld x4 r0_14) (View.ld x2 r0_15) (View.ld x3 r0_15))
        (dmat (k0_pay2 (View.ld x0 r0_0)) (k0_pay3 (View.ld x1 r0_1)) (View.ld x4 r0_16) (View.ld x2 r0_17) (View.ld x3 r0_17)))
      shapeCasts_S1x1024_S1x1x1024⟩] := by
  unfold_out out0_5
  simp only [pay1, pay5, pay6, pay12, pay13, pay15, pay16, pay22, pay23, pay28, pay30, pay31, pay32, pay37, pay38]
  simp only [pay4, pay9, pay14, pay19, pay27, pay29, pay34, pay3940, blockI, winI, winV]

end Cert.Proof.Block

end
-- ==== Proof.Array.lean ====
/-
  What the kernel's result array holds after the run: at every position the first index of the smallest of the 8192
  distances, the distances over the five arrays the region finds.
-/
module

public import proofs.«01_k».proof.Proof.Payload
public import Idealize.ShloMosaic.Lib.Pipeline.ValueKit

@[expose] public section

set_option synthInstance.maxSize 4096

noncomputable section

namespace Cert.Proof.Block

open Cert.KernelIdeal Cert.KernelIdeal.Gen Cert.Proof.Argmin
open Idealize.ShloMosaic hiding ix2 ix3
open Idealize.ShloMosaic.TcCoe Idealize.ShloMosaic.ValueIdx
open Idealize.ShloMosaic.Pipeline (Dat)

/-- The two operand indices of the sub-block's product, at code row `r`, position `p` and channel `k`. -/
theorem lhs_idx (r p : Fin 1024) (k : Fin 256) :
    dot_S1024x256_S256x1024_S1024x1024_1_0_0_1_n_n.lhsIdx (ix2 r p)
      ((contrEquiv1 dot_S1024x256_S256x1024_S1024x1024_1_0_0_1_n_n 256 rfl rfl).symm k) = ix2 r k := by
  funext a
  match a with
  | ⟨0, _⟩ => rfl
  | ⟨1, _⟩ => rfl
theorem rhs_idx (r p : Fin 1024) (k : Fin 256) :
    dot_S1024x256_S256x1024_S1024x1024_1_0_0_1_n_n.rhsIdx (ix2 r p)
      ((contrEquiv1 dot_S1024x256_S256x1024_S1024x1024_1_0_0_1_n_n 256 rfl rfl).symm k) = ix2 k p := by
  funext a
  match a with
  | ⟨0, _⟩ => rfl
  | ⟨1, _⟩ => rfl

/-- One product of a sub-block at an index: the sum over the 256 channels. -/
theorem mm_apply (w : FVec Ideal S1024x256 .bf16) (z : FVec Ideal S256x1024 .bf16) (r p : Fin 1024) :
    (matmul dot_S1024x256_S256x1024_S1024x1024_1_0_0_1_n_n none w z (constant S1024x1024 .f32 0x00000000#32) : FVec Ideal S1024x1024 .f32) (ix2 r p)
      = ∑ k : Fin 256, w (ix2 r k) * z (ix2 k p) := by
  simp only [matmul]
  rw [Ideal.matmul_constant_zero_apply,
    ← Equiv.sum_comp (contrEquiv1 dot_S1024x256_S256x1024_S1024x1024_1_0_0_1_n_n 256 rfl rfl).symm]
  exact Finset.sum_congr rfl fun k _ => by rw [lhs_idx, rhs_idx]

/-- A sub-block's distance at an index. -/
theorem dmat_apply (z : FVec Ideal S256x1024 .bf16) (zs : FVec Ideal S1x1024 .f32) (ws : Vec Ideal S1024x1 .f32)
    (wh wl : Vec Ideal S1024x256 .bf16) (r p : Fin 1024) :
    dmat z zs ws wh wl (ix2 r p) = (zs (ix2 0 p) + ws (ix2 r 0))
      - ((∑ k : Fin 256, wh (ix2 r k) * z (ix2 k p)) + ∑ k : Fin 256, wl (ix2 r k) * z (ix2 k p)) := by
  have h1 : broadcastTo S1024x1024 zs broadcasts_S1x1024_S1024x1024 (ix2 r p) = zs (ix2 0 p) :=
    broadcastTo_apply _ _ _ _ fun a => match a with
      | ⟨0, _⟩ => rfl
      | ⟨1, _⟩ => rfl
  have h2 : broadcastTo S1024x1024 ws broadcasts_S1024x1_S1024x1024 (ix2 r p) = ws (ix2 r 0) :=
    broadcastTo_apply _ _ _ _ fun a => match a with
      | ⟨0, _⟩ => rfl
      | ⟨1, _⟩ => rfl
  unfold dmat
  simp only [shapeCast_self]
  rw [subf_apply, addf_apply, addf_apply, h1, h2, mm_apply, mm_apply]

/-- A sub-block's rows of the row sums and of a code array, read at an index. -/
theorem ld_ws (x : Vec Ideal S8192x1 .f32) (o : Nat) (h : ∀ a, (![o, 0] : Fin 2 → Nat) a + S1024x1.size a ≤ S8192x1.size a)
    (r : Fin 1024) (ho : o + r.val < 8192) :
    View.ld x (Rect.unit (s := S8192x1) ![o, 0] S1024x1.size h) (ix2 r 0) = x (ix2 ⟨o + r.val, ho⟩ 0) :=
  View.ld_unit_apply_of _ _ _ _ _ _ fun a => match a with
    | ⟨0, _⟩ => rfl
    | ⟨1, _⟩ => rfl
theorem ld_w (x : Vec Ideal S8192x256 .bf16) (o : Nat) (h : ∀ a, (![o, 0] : Fin 2 → Nat) a + S1024x256.size a ≤ S8192x256.size a)
    (r : Fin 1024) (k : Fin 256) (ho : o + r.val < 8192) :
    View.ld x (Rect.unit (s := S8192x256) ![o, 0] S1024x256.size h) (ix2 r k) = x (ix2 ⟨o + r.val, ho⟩ k) :=
  View.ld_unit_apply_of _ _ _ _ _ _ fun a => match a with
    | ⟨0, _⟩ => rfl
    | ⟨1, _⟩ => by show k.val = 0 + k.val; omega

/-- The distance of code `k` at column `p` of a block, over the kernel's five operand blocks. -/
def bdist (x0 : Vec Ideal S1x256x1024 .bf16) (x1 : Vec Ideal S1x1x1024 .f32) (x2 x3 : Vec Ideal S8192x256 .bf16) (x4 : Vec Ideal S8192x1 .f32)
    (p : Fin 1024) (k : Fin 8192) : EReal :=
  (x1 (ix3 0 0 p) + x4 (ix2 k 0))
    - ((∑ c : Fin 256, x2 (ix2 k c) * x0 (ix3 0 c p)) + ∑ c : Fin 256, x3 (ix2 k c) * x0 (ix3 0 c p))

/-- The sub-block from row `o` on, at an index. -/
theorem dsub_apply (x0 : Vec Ideal S1x256x1024 .bf16) (x1 : Vec Ideal S1x1x1024 .f32) (x2 x3 : Vec Ideal S8192x256 .bf16) (x4 : Vec Ideal S8192x1 .f32)
    (o : Nat) (hs : ∀ a, (![o, 0] : Fin 2 → Nat) a + S1024x1.size a ≤ S8192x1.size a)
    (hw : ∀ a, (![o, 0] : Fin 2 → Nat) a + S1024x256.size a ≤ S8192x256.size a) (p r : Fin 1024) (ho : o + r.val < 8192) :
    dmat (k0_pay2 (View.ld x0 r0_0)) (k0_pay3 (View.ld x1 r0_1)) (View.ld x4 (Rect.unit (s := S8192x1) ![o, 0] S1024x1.size hs))
      (View.ld x2 (Rect.unit (s := S8192x256) ![o, 0] S1024x256.size hw)) (View.ld x3 (Rect.unit (s := S8192x256) ![o, 0] S1024x256.size hw)) (ix2 r p)
      = bdist x0 x1 x2 x3 x4 p ⟨o + r.val, ho⟩ := by
  have e0 : ∀ c : Fin 256, k0_pay2 (View.ld x0 r0_0) (ix2 c p) = x0 (ix3 0 c p) := fun c => by
    rw [View.ld_unit_lit _ _ (by decide)]
    refine (shapeCast_dropUnit_apply _ _ _ _).trans (congrArg x0 (funext fun a => ?_))
    match a with
    | ⟨0, _⟩ => rfl
    | ⟨1, _⟩ => rfl
    | ⟨2, _⟩ => rfl
  have e1 : k0_pay3 (View.ld x1 r0_1) (ix2 0 p) = x1 (ix3 0 0 p) := by
    rw [View.ld_unit_lit _ _ (by decide)]
    refine (shapeCast_dropUnit_apply _ _ _ _).trans (congrArg x1 (funext fun a => ?_))
    match a with
    | ⟨0, _⟩ => rfl
    | ⟨1, _⟩ => rfl
    | ⟨2, _⟩ => rfl
  rw [dmat_apply, e1, ld_ws _ _ _ _ ho]
  exact congrArg₂ (fun a b : EReal => _ - (a + b))
    (Finset.sum_congr rfl fun c _ => congrArg₂ (fun a b : EReal => a * b) (ld_w _ _ _ _ _ ho) (e0 c))
    (Finset.sum_congr rfl fun c _ => congrArg₂ (fun a b : EReal => a * b) (ld_w _ _ _ _ _ ho) (e0 c))

/-- The stored block at column `p`: the first index of the smallest distance. -/
theorem first_out (x0 : Vec Ideal S1x256x1024 .bf16) (x1 : Vec Ideal S1x1x1024 .f32) (x2 x3 : Vec Ideal S8192x256 .bf16) (x4 : Vec Ideal S8192x1 .f32)
    (p : Fin 1024) : ∃ v, First (bdist x0 x1 x2 x3 x4 p) 0 8192 v (out0_5 x0 x1 x2 x3 x4 (ix3 0 0 p)) := by
  rw [out_eq, View.canon_cons_unit_lit _ _ _ (by decide)]
  have e : ∀ i : IVec S1x1024 32, shapeCast S1x1x1024 i shapeCasts_S1x1024_S1x1x1024 (ix3 0 0 p) = i (ix2 0 p) := fun i => by
    refine (shapeCast_addUnit_apply _ _ _ _).trans (congrArg i (funext fun a => ?_))
    match a with
    | ⟨0, _⟩ => rfl
    | ⟨1, _⟩ => rfl
  rw [e]
  exact first_block (o0 := 0) (o1 := 1024) (o2 := 2048) (o3 := 3072) (o4 := 4096) (o5 := 5120) (o6 := 6144) (o7 := 7168) (o8 := 8192)
    _ _ _ _ _ _ _ _ p (by omega) (by omega) (by omega) (by omega) (by omega) (by omega) (by omega) (by omega) (by omega)
    (fun r => dsub_apply _ _ _ _ _ _ _ _ _ _ _) (fun r => dsub_apply _ _ _ _ _ _ _ _ _ _ _)
    (fun r => dsub_apply _ _ _ _ _ _ _ _ _ _ _) (fun r => dsub_apply _ _ _ _ _ _ _ _ _ _ _)
    (fun r => dsub_apply _ _ _ _ _ _ _ _ _ _ _) (fun r => dsub_apply _ _ _ _ _ _ _ _ _ _ _)
    (fun r => dsub_apply _ _ _ _ _ _ _ _ _ _ _) (fun r => dsub_apply _ _ _ _ _ _ _ _ _ _ _)

section
variable (m : (ℓ : Loc nD τ sig) → Buf (Elt Ideal) ℓ)

/-- The five arrays the region finds. -/
def aZ (c : Dev nD) : Vec Ideal S16x256x1024 .bf16 := V m c main_v3
def aS (c : Dev nD) : Vec Ideal S16x1x1024 .f32 := V m c main_v6
def aH (c : Dev nD) : Vec Ideal S8192x256 .bf16 := V m c main_v7
def aL (c : Dev nD) : Vec Ideal S8192x256 .bf16 := V m c main_v10
def aN (c : Dev nD) : Vec Ideal S8192x1 .f32 := V m c main_v13

/-- The distance of code `k` at position `p` of image `b`, over the arrays the region finds. -/
def vdist (c : Dev nD) (b : Fin 16) (p : Fin 1024) (k : Fin 8192) : EReal :=
  (aS m c (ix3 b 0 p) + aN m c (ix2 k 0))
    - ((∑ a : Fin 256, aH m c (ix2 k a) * aZ m c (ix3 b a p)) + ∑ a : Fin 256, aL m c (ix2 k a) * aZ m c (ix3 b a p))

/-- Every window's block index at a point (decided). -/
theorem idx0 : ∀ t : Fin cfg0.N, win0_0.index t = ![t.val, 0, 0] := (by decide +kernel : ∀ t : Fin grid0.N, _)
theorem idx1 : ∀ t : Fin cfg0.N, win0_1.index t = ![t.val, 0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![t.val, 0, 0] := (by decide +kernel : ∀ t : Fin grid0.N, _)

/-- The point's image. -/
def img (t : Fin cfg0.N) : Fin 16 := t.cast N_0

theorem iblk0 (c : Dev nD) (t : Fin cfg0.N) (a : Fin 256) (p : Fin 1024) :
    (iblk m c 0 t : Vec Ideal S1x256x1024 .bf16) (ix3 0 a p) = aZ m c (ix3 (img t) a p) := by
  unfold iblk
  rw [View.read_apply]
  show V m c main_v3 _ = V m c main_v3 _
  congr 1
  funext d
  apply Fin.ext
  match d with
  | ⟨0, _⟩ => show win0_0.index t 0 * 1 + 1 * 0 = t.val; rw [idx0]; show t.val * 1 + 1 * 0 = t.val; omega
  | ⟨1, _⟩ => show win0_0.index t 1 * 256 + 1 * a.val = a.val; rw [idx0]; show 0 * 256 + 1 * a.val = a.val; omega
  | ⟨2, _⟩ => show win0_0.index t 2 * 1024 + 1 * p.val = p.val; rw [idx0]; show 0 * 1024 + 1 * p.val = p.val; omega
theorem iblk1 (c : Dev nD) (t : Fin cfg0.N) (p : Fin 1024) :
    (iblk m c 1 t : Vec Ideal S1x1x1024 .f32) (ix3 0 0 p) = aS m c (ix3 (img t) 0 p) := by
  unfold iblk
  rw [View.read_apply]
  show V m c main_v6 _ = V m c main_v6 _
  congr 1
  funext d
  apply Fin.ext
  match d with
  | ⟨0, _⟩ => show win0_1.index t 0 * 1 + 1 * 0 = t.val; rw [idx1]; show t.val * 1 + 1 * 0 = t.val; omega
  | ⟨1, _⟩ => show win0_1.index t 1 * 1 + 1 * 0 = 0; rw [idx1]; rfl
  | ⟨2, _⟩ => show win0_1.index t 2 * 1024 + 1 * p.val = p.val; rw [idx1]; show 0 * 1024 + 1 * p.val = p.val; omega
theorem iblk2 (c : Dev nD) (t : Fin cfg0.N) (k : Fin 8192) (a : Fin 256) :
    (iblk m c 2 t : Vec Ideal S8192x256 .bf16) (ix2 k a) = aH m c (ix2 k a) := by
  unfold iblk
  rw [View.read_apply]
  show V m c main_v7 _ = V m c main_v7 _
  congr 1
  funext d
  apply Fin.ext
  match d with
  | ⟨0, _⟩ => show win0_2.index t 0 * 8192 + 1 * k.val = k.val; rw [idx2]; show 0 * 8192 + 1 * k.val = k.val; omega
  | ⟨1, _⟩ => show win0_2.index t 1 * 256 + 1 * a.val = a.val; rw [idx2]; show 0 * 256 + 1 * a.val = a.val; omega
theorem iblk3 (c : Dev nD) (t : Fin cfg0.N) (k : Fin 8192) (a : Fin 256) :
    (iblk m c 3 t : Vec Ideal S8192x256 .bf16) (ix2 k a) = aL m c (ix2 k a) := by
  unfold iblk
  rw [View.read_apply]
  show V m c main_v10 _ = V m c main_v10 _
  congr 1
  funext d
  apply Fin.ext
  match d with
  | ⟨0, _⟩ => show win0_3.index t 0 * 8192 + 1 * k.val = k.val; rw [idx3]; show 0 * 8192 + 1 * k.val = k.val; omega
  | ⟨1, _⟩ => show win0_3.index t 1 * 256 + 1 * a.val = a.val; rw [idx3]; show 0 * 256 + 1 * a.val = a.val; omega
theorem iblk4 (c : Dev nD) (t : Fin cfg0.N) (k : Fin 8192) :
    (iblk m c 4 t : Vec Ideal S8192x1 .f32) (ix2 k 0) = aN m c (ix2 k 0) := by
  unfold iblk
  rw [View.read_apply]
  show V m c main_v13 _ = V m c main_v13 _
  congr 1
  funext d
  apply Fin.ext
  match d with
  | ⟨0, _⟩ => show win0_4.index t 0 * 8192 + 1 * k.val = k.val; rw [idx4]; show 0 * 8192 + 1 * k.val = k.val; omega
  | ⟨1, _⟩ => show win0_4.index t 1 * 1 + 1 * 0 = 0; rw [idx4]; rfl

/-- A block's distances are the image's. -/
theorem bdist_eq (c : Dev nD) (t : Fin cfg0.N) (p : Fin 1024) :
    bdist (iblk m c 0 t) (iblk m c 1 t) (iblk m c 2 t) (iblk m c 3 t) (iblk m c 4 t) p = vdist m c (img t) p := by
  funext k
  unfold bdist vdist
  rw [iblk1, iblk4]
  simp only [iblk0, iblk2, iblk3]

/-- Where the result's block at a point sits in the result array. -/
theorem emb5 (t : Fin cfg0.N) (p : Fin 1024) :
    (((cfg0.win 5).blk t).view.emb (ix3 (0 : Fin 1) (0 : Fin 1) p) : S16x1x1024.Idx) = ix3 (img t) 0 p := by
  funext d
  apply Fin.ext
  match d with
  | ⟨0, _⟩ => show win0_5.index t 0 * 1 + 1 * 0 = t.val; rw [idx5]; show t.val * 1 + 1 * 0 = t.val; omega
  | ⟨1, _⟩ => show win0_5.index t 1 * 1 + 1 * 0 = 0; rw [idx5]; rfl
  | ⟨2, _⟩ => show win0_5.index t 2 * 1024 + 1 * p.val = p.val; rw [idx5]; show 0 * 1024 + 1 * p.val = p.val; omega

/-- The result array after the run: at image `b` and position `p` the first index of the smallest distance. -/
theorem first_array (c : Dev nD) (i : S16x1x1024.Idx) :
    ∃ v, First (vdist m c (i 0) (i 2)) 0 8192 v (((dats m 0 c).arrAt 5 cfg0.N : Vec Ideal S16x1x1024 .i32) i) := by
  refine (dats m 0 c).arrAt_forall_of_covers 5 (fun (i : S16x1x1024.Idx) (w : BitVec 32) => ∃ v, First (vdist m c (i 0) (i 2)) 0 8192 v w)
    (by decide +kernel) (fun t hf y => ?_) i
  obtain ⟨p, rfl⟩ : ∃ p : Fin 1024, y = (ix3 (0 : Fin 1) (0 : Fin 1) p : S1x1x1024.Idx) := by
    refine ⟨(y : S1x1x1024.Idx) 2, funext fun a => Fin.ext ?_⟩
    match a with
    | ⟨0, _⟩ => have : ((y : S1x1x1024.Idx) 0).val < 1 := ((y : S1x1x1024.Idx) 0).isLt; show ((y : S1x1x1024.Idx) 0).val = 0; omega
    | ⟨1, _⟩ => have : ((y : S1x1x1024.Idx) 1).val < 1 := ((y : S1x1x1024.Idx) 1).isLt; show ((y : S1x1x1024.Idx) 1).val = 0; omega
    | ⟨2, _⟩ => rfl
  have h := first_out (iblk m c 0 t) (iblk m c 1 t) (iblk m c 2 t) (iblk m c 3 t) (iblk m c 4 t) p
  rw [bdist_eq, ← after0_5] at h
  rw [emb5]
  exact h
end

end Cert.Proof.Block

end
-- ==== Proof.Dist.lean ====
/-
  The squared distance both programs rank the codes by, as a function of the two argument arrays: the sum of the squares of
  the vector, plus that of the code, less the sum of the products of the code with twice the vector. The vector at position
  `p` of image `b` runs over the channels; position `p` is row `p / 32`, column `p % 32` of the image.
-/
module

public import Idealize.ShloMosaic.PureOps.Ideal.Laws
public import Idealize.ShloMosaic.Lib.ValueIdx

@[expose] public section

noncomputable section

namespace Cert.Proof.Dist

open Idealize.ShloMosaic Idealize.ShloMosaic.ValueIdx

/-- The images and the codebook. -/
abbrev Z := (⟨4, ![16, 256, 32, 32]⟩ : Shape).Idx → EReal
abbrev C := (⟨2, ![8192, 256]⟩ : Shape).Idx → EReal

/-- The two constants the programs print: zero and two. -/
def zero : EReal := Ideal.ofBits .f32 0x00000000#32
def two : EReal := Ideal.ofBits .f32 0x40000000#32

/-- Channel `c` of the vector at position `p` of image `b`. -/
def pix (z : Z) (b : Fin 16) (c : Fin 256) (p : Fin 1024) : EReal :=
  z (ix4 b c ⟨p.val / 32, by omega⟩ ⟨p.val % 32, by omega⟩)

/-- The squared distance of code `k` from the vector at position `p` of image `b`. -/
def sqdist (z : Z) (w : C) (b : Fin 16) (p : Fin 1024) (k : Fin 8192) : EReal :=
  ((zero + ∑ c : Fin 256, pix z b c p * pix z b c p) + (zero + ∑ c : Fin 256, w (ix2 k c) * w (ix2 k c)))
    - ∑ c : Fin 256, w (ix2 k c) * (two * pix z b c p)

end Cert.Proof.Dist

end
-- ==== Proof.KerDist.lean ====
/-
  The five arrays the kernel's host operations prepare, read at an index, and with them the distances the kernel ranks: over
  finite codes the low part of a code is zero, so that they are the squared distances.
-/
module

public import proofs.«01_k».proof.Proof.Array
public import proofs.«01_k».proof.Proof.Dist

@[expose] public section

noncomputable section

namespace Cert.Proof.Block

open Cert.KernelIdeal Cert.KernelIdeal.Gen Cert.Proof.Argmin Cert.Proof.Dist
open Idealize.ShloMosaic hiding ix1 ix2 ix3 ix4
open Idealize.ShloMosaic.TcCoe Idealize.ShloMosaic.ValueIdx

variable (m : (ℓ : Loc nD τ sig) → Buf (Elt Ideal) ℓ) (c : Dev nD)

/-- The two argument arrays. -/
def argZ : FVec Ideal S16x256x32x32 .f32 := m ((c : Thread nD τ).loc main_arg0)
def argW : FVec Ideal S8192x256 .f32 := m ((c : Thread nD τ).loc main_arg1)

/-- The five arrays as expressions over the arguments. -/
theorem aZ_eq : aZ m c = shapeCast S16x256x1024 (truncf .bf16 (mulf (broadcastInDim S16x256x32x32 ![] bcast_S_S16x256x32x32
    (constant S_ .f32 0x40000000#32 : FVec Ideal S_ .f32)) (argZ m c)) bitsLt_bf16_f32) shapeCasts_S16x256x32x32_S16x256x1024 := by
  unfold aZ V V0 argZ
  dsimp only [hostOps0, List.flatten_cons, List.flatten_nil, List.cons_append, List.nil_append]
  after_results_simp
  rfl
theorem aS_eq : aS m c = shapeCast S16x1x1024 (Host.reduceAdd (mulf (argZ m c) (argZ m c)) (constant S_ .f32 0x00000000#32 : FVec Ideal S_ .f32)
    reducesTo_S16x256x32x32_S16x32x32_d1 h_S_) shapeCasts_S16x32x32_S16x1x1024 := by
  unfold aS V V0 argZ
  dsimp only [hostOps0, List.flatten_cons, List.flatten_nil, List.cons_append, List.nil_append]
  after_results_simp
  rfl
theorem aH_eq : aH m c = truncf .bf16 (argW m c) bitsLt_bf16_f32 := by
  unfold aH V V0 argW
  dsimp only [hostOps0, List.flatten_cons, List.flatten_nil, List.cons_append, List.nil_append]
  after_results_simp
theorem aL_eq : aL m c = truncf .bf16 (subf (argW m c) (extf .f32 (truncf .bf16 (argW m c) bitsLt_bf16_f32) bitsLt_bf16_f32)) bitsLt_bf16_f32 := by
  unfold aL V V0 argW
  dsimp only [hostOps0, List.flatten_cons, List.flatten_nil, List.cons_append, List.nil_append]
  after_results_simp
theorem aN_eq : aN m c = shapeCast S8192x1 (Host.reduceAdd (mulf (argW m c) (argW m c)) (constant S_ .f32 0x00000000#32 : FVec Ideal S_ .f32)
    reducesTo_S8192x256_S8192_d1 h_S_) shapeCasts_S8192_S8192x1 := by
  unfold aN V V0 argW
  dsimp only [hostOps0, List.flatten_cons, List.flatten_nil, List.cons_append, List.nil_append]
  after_results_simp
  rfl

/-- Twice the vectors. -/
theorem aZ_apply (b : Fin 16) (a : Fin 256) (p : Fin 1024) : aZ m c (ix3 b a p) = two * pix (argZ m c) b a p := by
  rw [aZ_eq]
  refine shapeCast_apply _ _ _ (ix4 b a ⟨p.val / 32, by omega⟩ ⟨p.val % 32, by omega⟩) ?_
  rw [Shape.rowMajor_val_four, Shape.rowMajor_val_three]
  show ((b.val * 256 + a.val) * 32 + p.val / 32) * 32 + p.val % 32 = (b.val * 256 + a.val) * 1024 + p.val
  omega

/-- The vectors' sums of squares. -/
theorem aS_apply (b : Fin 16) (p : Fin 1024) :
    aS m c (ix3 b 0 p) = zero + ∑ a : Fin 256, pix (argZ m c) b a p * pix (argZ m c) b a p := by
  rw [aS_eq]
  refine (shapeCast_apply _ _ _ (ix3 b ⟨p.val / 32, by omega⟩ ⟨p.val % 32, by omega⟩) ?_).trans
    ((Ideal.hostReduceAdd_single reducesTo_S16x256x32x32_S16x32x32_d1 (by decide) _ _ _).trans
      (congrArg (fun s => zero + s) (Finset.sum_congr rfl fun a _ => ?_)))
  · rw [Shape.rowMajor_val_three, Shape.rowMajor_val_three]
    show (b.val * 32 + p.val / 32) * 32 + p.val % 32 = (b.val * 1 + 0) * 1024 + p.val
    omega
  · refine congrArg (fun i => argZ m c i * argZ m c i) (funext fun d => ?_)
    match d with
    | ⟨0, _⟩ => rfl
    | ⟨1, _⟩ => rfl
    | ⟨2, _⟩ => rfl
    | ⟨3, _⟩ => rfl

/-- The codes' sums of squares. -/
theorem aN_apply (k : Fin 8192) : aN m c (ix2 k 0) = zero + ∑ a : Fin 256, argW m c (ix2 k a) * argW m c (ix2 k a) := by
  rw [aN_eq]
  refine (shapeCast_apply _ _ _ (ix1 k) ?_).trans
    ((Ideal.hostReduceAdd_single reducesTo_S8192x256_S8192_d1 (by decide) _ _ _).trans
      (congrArg (fun s => zero + s) (Finset.sum_congr rfl fun a _ => ?_)))
  · rw [Shape.rowMajor_val_one, Shape.rowMajor_val_two]
    show k.val = k.val * 1 + 0
    omega
  · refine congrArg (fun i => argW m c i * argW m c i) (funext fun d => ?_)
    match d with
    | ⟨0, _⟩ => rfl
    | ⟨1, _⟩ => rfl

/-- The codes, and what rounding them leaves: nothing, where they are finite. -/
theorem aH_apply (k : Fin 8192) (a : Fin 256) : aH m c (ix2 k a) = argW m c (ix2 k a) := by
  rw [aH_eq]; rfl
theorem aL_apply (k : Fin 8192) (a : Fin 256) : aL m c (ix2 k a) = argW m c (ix2 k a) - argW m c (ix2 k a) := by
  rw [aL_eq]; rfl

/-- Over finite codes the kernel ranks the squared distances. -/
theorem vdist_eq (hW : ∀ i, argW m c i ≠ ⊤ ∧ argW m c i ≠ ⊥) (b : Fin 16) (p : Fin 1024) :
    vdist m c b p = sqdist (argZ m c) (argW m c) b p := by
  funext k
  unfold vdist sqdist
  have h0 : ∀ a : Fin 256, aL m c (ix2 k a) = 0 := fun a => by
    rw [aL_apply]
    exact EReal.sub_self (hW _).1 (hW _).2
  simp only [h0, zero_mul, Finset.sum_const_zero, add_zero, aS_apply, aN_apply, aH_apply, aZ_apply]

/-- The result array, over finite codes: at every position the first index of the smallest squared distance. -/
theorem first_dist (hW : ∀ i, argW m c i ≠ ⊤ ∧ argW m c i ≠ ⊥) (b : Fin 16) (p : Fin 1024) :
    ∃ v, First (sqdist (argZ m c) (argW m c) b p) 0 8192 v
      (((dats m 0 c).arrAt 5 cfg0.N : Vec Ideal S16x1x1024 .i32) (ix3 b 0 p)) := by
  have h := first_array m c (ix3 b 0 p)
  rwa [show vdist m c ((ix3 b 0 p : S16x1x1024.Idx) 0) ((ix3 b 0 p : S16x1x1024.Idx) 2) = _ from vdist_eq m c hW b p] at h

end Cert.Proof.Block

end
-- ==== Proof.RefDist.lean ====
/-
  The reference's array of distances, read at a row and a code.
-/
module

public import proofs.«01_k».proof.Proof.RefRun
public import proofs.«01_k».proof.Proof.Dist
public import Idealize.ShloMosaic.Lib.Pipeline.Value

@[expose] public section

noncomputable section

namespace Cert.Proof.Ref

open Cert.ReferenceIdeal Cert.ReferenceIdeal.Gen Cert.Proof.Dist
open Idealize.ShloMosaic Idealize.ShloMosaic.TcCoe Idealize.ShloMosaic.ValueIdx

/-- The vectors as rows. -/
def rowsOf (z : FVec Ideal S16x256x32x32 .f32) : FVec Ideal S16384x256 .f32 :=
  shapeCast S16384x256 (transpose S16x32x32x256 [0, 2, 3, 1] z transposes_S16x256x32x32_S16x32x32x256_0_2_3_1) shapeCasts_S16x32x32x256_S16384x256

/-- The reference's distances as one expression over its arguments. -/
def table (z : FVec Ideal S16x256x32x32 .f32) (w : FVec Ideal S8192x256 .f32) : FVec Ideal S16384x8192 .f32 :=
  subf
    (addf
      (broadcastInDim S16384x8192 ![0, 1] bcast_S16384x1_S16384x8192_0_1 (broadcastInDim S16384x1 ![0] bcast_S16384_S16384x1_0
        (Host.reduceAdd (mulf (rowsOf z) (rowsOf z)) (constant S_ .f32 0x00000000#32 : FVec Ideal S_ .f32) reducesTo_S16384x256_S16384_d1 h_S_)))
      (broadcastInDim S16384x8192 ![0, 1] bcast_S1x8192_S16384x8192_0_1 (broadcastInDim S1x8192 ![1] bcast_S8192_S1x8192_1
        (Host.reduceAdd (mulf w w) (constant S_ .f32 0x00000000#32 : FVec Ideal S_ .f32) reducesTo_S8192x256_S8192_d1 h_S_))))
    (Host.dotGeneral dot_S16384x256_S256x8192_S16384x8192_1_0_0_1_n_n none
      (mulf (broadcastInDim S16384x256 ![] bcast_S_S16384x256 (constant S_ .f32 0x40000000#32 : FVec Ideal S_ .f32)) (rowsOf z))
      (transpose S256x8192 [1, 0] w transposes_S8192x256_S256x8192_1_0))

set_option maxHeartbeats 4000000 in
/-- The reference computes that table. -/
theorem after_table (V : Valuation τ sig (Elt Ideal)) :
    (StableHlo.after refDist V (Proc.devRef .tc main_v15) : FVec Ideal S16384x8192 .f32)
      = table (V (Proc.devRef .tc main_arg0)) (V (Proc.devRef .tc main_arg1)) := by
  dsimp only [refDist]
  after_results_simp
  rfl

/-- The row of a position: image `b`, position `p`. -/
def row (b : Fin 16) (p : Fin 1024) : Fin 16384 := ⟨b.val * 1024 + p.val, by omega⟩

theorem rowsOf_apply (z : FVec Ideal S16x256x32x32 .f32) (b : Fin 16) (p : Fin 1024) (c : Fin 256) :
    rowsOf z (ix2 (row b p) c) = pix z b c p := by
  unfold rowsOf pix
  refine (shapeCast_apply _ _ _ (ix4 b ⟨p.val / 32, by omega⟩ ⟨p.val % 32, by omega⟩ c) ?_).trans
    (transpose_apply _ _ _ _ _ fun a => ?_)
  · rw [Shape.rowMajor_val_four, Shape.rowMajor_val_two]
    show ((b.val * 32 + p.val / 32) * 32 + p.val % 32) * 256 + c.val = (b.val * 1024 + p.val) * 256 + c.val
    omega
  · match a with
    | ⟨0, _⟩ => rfl
    | ⟨1, _⟩ => rfl
    | ⟨2, _⟩ => rfl
    | ⟨3, _⟩ => rfl

/-- The sum of the squares of a row. -/
theorem rowSum_apply (x : FVec Ideal S16384x256 .f32) (n : Fin 16384) :
    Host.reduceAdd x (constant S_ .f32 0x00000000#32 : FVec Ideal S_ .f32) reducesTo_S16384x256_S16384_d1 h_S_ (ix1 n)
      = zero + ∑ c : Fin 256, x (ix2 n c) := by
  refine (Ideal.hostReduceAdd_single reducesTo_S16384x256_S16384_d1 (by decide) x _ (ix1 n)).trans
    (congrArg (fun s => zero + s) (Finset.sum_congr rfl fun c _ => congrArg x (funext fun a => ?_)))
  match a with
  | ⟨0, _⟩ => rfl
  | ⟨1, _⟩ => rfl

/-- The sum of the squares of a code. -/
theorem codeSum_apply (x : FVec Ideal S8192x256 .f32) (k : Fin 8192) :
    Host.reduceAdd x (constant S_ .f32 0x00000000#32 : FVec Ideal S_ .f32) reducesTo_S8192x256_S8192_d1 h_S_ (ix1 k)
      = zero + ∑ c : Fin 256, x (ix2 k c) := by
  refine (Ideal.hostReduceAdd_single reducesTo_S8192x256_S8192_d1 (by decide) x _ (ix1 k)).trans
    (congrArg (fun s => zero + s) (Finset.sum_congr rfl fun c _ => congrArg x (funext fun a => ?_)))
  match a with
  | ⟨0, _⟩ => rfl
  | ⟨1, _⟩ => rfl

/-- The product of a row with a column. -/
theorem prod_apply (x : FVec Ideal S16384x256 .f32) (y : FVec Ideal S256x8192 .f32) (n : Fin 16384) (k : Fin 8192) :
    Host.dotGeneral dot_S16384x256_S256x8192_S16384x8192_1_0_0_1_n_n none x y (ix2 n k) = ∑ c : Fin 256, x (ix2 n c) * y (ix2 c k) := by
  simp only [Host.dotGeneral]
  rw [Ideal.dotGeneral_apply, ← Equiv.sum_comp (contrEquiv1 dot_S16384x256_S256x8192_S16384x8192_1_0_0_1_n_n 256 rfl rfl).symm]
  refine Finset.sum_congr rfl fun c _ => congrArg₂ (fun a b : EReal => a * b) (congrArg x (funext fun a => ?_)) (congrArg y (funext fun a => ?_))
  · match a with
    | ⟨0, _⟩ => rfl
    | ⟨1, _⟩ => rfl
  · match a with
    | ⟨0, _⟩ => rfl
    | ⟨1, _⟩ => rfl

/-- The table at a row and a code is the squared distance. -/
theorem table_apply (z : FVec Ideal S16x256x32x32 .f32) (w : FVec Ideal S8192x256 .f32) (b : Fin 16) (p : Fin 1024) (k : Fin 8192) :
    table z w (ix2 (row b p) k) = sqdist z w b p k := by
  have e1 : ∀ x : FVec Ideal S16384 .f32, broadcastInDim S16384x8192 ![0, 1] bcast_S16384x1_S16384x8192_0_1
      (broadcastInDim S16384x1 ![0] bcast_S16384_S16384x1_0 x) (ix2 (row b p) k) = x (ix1 (row b p)) := fun x =>
    (broadcastInDim_apply _ _ _ _ (ix2 (row b p) 0) fun a => match a with
      | ⟨0, _⟩ => rfl
      | ⟨1, _⟩ => rfl).trans (broadcastInDim_apply _ _ _ _ _ fun a => match a with
      | ⟨0, _⟩ => rfl)
  have e2 : ∀ x : FVec Ideal S8192 .f32, broadcastInDim S16384x8192 ![0, 1] bcast_S1x8192_S16384x8192_0_1
      (broadcastInDim S1x8192 ![1] bcast_S8192_S1x8192_1 x) (ix2 (row b p) k) = x (ix1 k) := fun x =>
    (broadcastInDim_apply _ _ _ _ (ix2 0 k) fun a => match a with
      | ⟨0, _⟩ => rfl
      | ⟨1, _⟩ => rfl).trans (broadcastInDim_apply _ _ _ _ _ fun a => match a with
      | ⟨0, _⟩ => rfl)
  have e3 : ∀ c : Fin 256, transpose S256x8192 [1, 0] w transposes_S8192x256_S256x8192_1_0 (ix2 c k) = w (ix2 k c) := fun c =>
    transpose_apply _ _ _ _ _ fun a => match a with
      | ⟨0, _⟩ => rfl
      | ⟨1, _⟩ => rfl
  unfold table sqdist
  rw [subf_apply, addf_apply, e1, e2, rowSum_apply, codeSum_apply, prod_apply]
  simp only [mulf_apply, rowsOf_apply, e3]
  refine congrArg (fun s : EReal => _ - s) (Finset.sum_congr rfl fun c _ => ?_)
  exact mul_comm _ _

end Cert.Proof.Ref

end
-- ==== Proof.RefArgmin.lean ====
/-
  The reference's index of the least entry of each row: the fold its reduction takes over a row's pairs of entry and index
  ends at the first index of the row's smallest entry.
-/
module

public import proofs.«01_k».proof.Proof.RefDist
public import proofs.«01_k».proof.Proof.Argmin

@[expose] public section

noncomputable section

namespace Cert.Proof.Ref

open Cert.ReferenceIdeal Cert.ReferenceIdeal.Gen Cert.Proof.Argmin Cert.Proof.Dist
open Idealize.ShloMosaic Idealize.ShloMosaic.TcCoe Idealize.ShloMosaic.ValueIdx

/-- The order of the reduction: the lesser entry first, of equal entries the lesser index. -/
def Le (p q : EReal × BitVec 32) : Prop := p.1 < q.1 ∨ (p.1 = q.1 ∧ p.2.toInt ≤ q.2.toInt)

theorem Le.refl (p : EReal × BitVec 32) : Le p p := .inr ⟨rfl, le_refl _⟩
theorem Le.trans (p q r : EReal × BitVec 32) (h : Le p q) (h' : Le q r) : Le p r := by
  rcases h with h | ⟨h, k⟩
  · rcases h' with h' | ⟨h', k'⟩
    · exact .inl (h.trans h')
    · exact .inl (h' ▸ h)
  · rcases h' with h' | ⟨h', k'⟩
    · exact .inl (h ▸ h')
    · exact .inr ⟨h.trans h', k.trans k'⟩

/-- The reducer on a pair of pairs, in plain comparisons. -/
theorem reducer_eq (a b : EReal × BitVec 32) :
    reducer_argmin_f32_i32 (F := Ideal) a b
      = (if a.1 < b.1 then a.1 else b.1, if a.1 < b.1 ∨ (a.1 = b.1 ∧ a.2.toInt < b.2.toInt) then a.2 else b.2) := by
  have e1 : FloatOps.cmpf (F := Ideal) (φ := .f32) .olt a.1 b.1 = BitVec.ofBool (decide (a.1 < b.1)) := rfl
  have e2 : FloatOps.cmpf (F := Ideal) (φ := .f32) .une a.1 a.1 = 0#1 := by
    show BitVec.ofBool (decide (a.1 ≠ a.1)) = 0#1
    simp
  have e3 : FloatOps.cmpf (F := Ideal) (φ := .f32) .oeq a.1 b.1 = BitVec.ofBool (decide (a.1 = b.1)) := rfl
  have e4 : IntOp.cmpi .slt a.2 b.2 = BitVec.ofBool (decide (a.2.toInt < b.2.toInt)) := by
    show BitVec.ofBool (a.2.slt b.2) = _
    congr 1
  unfold reducer_argmin_f32_i32
  simp only [e1, e2, e3, e4]
  by_cases h1 : a.1 < b.1 <;> by_cases h2 : a.1 = b.1 <;> by_cases h3 : a.2.toInt < b.2.toInt <;>
    simp [h1, h2, h3, IntOp.ori, IntOp.andi, Scalar.select]

/-- The reducer returns one of its two pairs, the least of them in that order. -/
theorem reducer_least (a b : EReal × BitVec 32) :
    (reducer_argmin_f32_i32 (F := Ideal) a b = a ∨ reducer_argmin_f32_i32 (F := Ideal) a b = b)
      ∧ Le (reducer_argmin_f32_i32 (F := Ideal) a b) a ∧ Le (reducer_argmin_f32_i32 (F := Ideal) a b) b := by
  rw [reducer_eq]
  obtain ⟨x, i⟩ := a
  obtain ⟨y, j⟩ := b
  simp only
  by_cases h1 : x < y
  · simp only [h1, if_true, true_or]
    exact ⟨trivial, Le.refl _, .inl h1⟩
  · by_cases h2 : x = y
    · subst h2
      by_cases h3 : i.toInt < j.toInt
      · simp only [h1, h3, if_false, if_true, true_and, or_true]
        exact ⟨.inl trivial, Le.refl _, .inr ⟨rfl, h3.le⟩⟩
      · simp only [h1, h3, if_false, true_and, or_false]
        exact ⟨.inr trivial, .inr ⟨rfl, not_lt.mp h3⟩, Le.refl _⟩
    · have h4 : y < x := lt_of_le_of_ne (not_lt.mp h1) (Ne.symm h2)
      simp only [h1, h2, if_false, false_and, or_false]
      exact ⟨.inr trivial, .inl h4, Le.refl _⟩

/-- The pairs of a row: an index of the array over that row. -/
theorem drop_eq (i : S16384x8192.Idx) (n : Fin 16384) :
    reducesTo_S16384x8192_S16384_d1.drop i = ix1 n ↔ i 0 = n := by
  constructor
  · intro h
    exact congrFun h 0
  · intro h
    funext a
    match a with
    | ⟨0, _⟩ => exact h

/-- The row's pairs: every entry of the row with its index, and nothing else. -/
theorem mem_fiber (x : S16384x8192.Idx → EReal) (y : S16384x8192.Idx → BitVec 32) (n : Fin 16384) (p : EReal × BitVec 32) :
    p ∈ Host.argReduceFiber x y reducesTo_S16384x8192_S16384_d1 (ix1 n) ↔ ∃ k : Fin 8192, p = (x (ix2 n k), y (ix2 n k)) := by
  unfold Host.argReduceFiber
  simp only [List.mem_map, List.mem_filter, List.mem_finRange, true_and, decide_eq_true_eq]
  constructor
  · rintro ⟨q, hn, rfl⟩
    rw [drop_eq] at hn
    refine ⟨(S16384x8192.rowMajor.symm q) 1, ?_⟩
    have e : S16384x8192.rowMajor.symm q = ix2 n ((S16384x8192.rowMajor.symm q) 1) := by
      rw [← hn]
      exact eq_ix2 _
    exact congrArg (fun i => (x i, y i)) e
  · rintro ⟨k, rfl⟩
    refine ⟨S16384x8192.rowMajor (ix2 n k), ?_, ?_⟩
    · rw [Equiv.symm_apply_apply, drop_eq]
    · rw [Equiv.symm_apply_apply]

/-- The reference's reduction of a table of distances: of each row the least pair of entry and index. -/
def pairs (x : FVec Ideal S16384x8192 .f32) : S16384.Idx → EReal × BitVec 32 :=
  Host.argReduce reducer_argmin_f32_i32 x (iotaInDim S16384x8192 32 1) (constant S_ .f32 0x7F800000#32) (constantI S_ 32 0#32)
    reducesTo_S16384x8192_S16384_d1 h_S_

theorem pairs_eq (x : FVec Ideal S16384x8192 .f32) : pairs x
    = Host.argReduce reducer_argmin_f32_i32 x (iotaInDim S16384x8192 32 1) (constant S_ .f32 0x7F800000#32) (constantI S_ 32 0#32)
      reducesTo_S16384x8192_S16384_d1 h_S_ := rfl

/-- The row's least pair is its smallest entry with the first index of it. -/
theorem pairs_first (x : FVec Ideal S16384x8192 .f32) (n : Fin 16384) :
    ∃ v, First (fun k => x (ix2 n k)) 0 8192 v (pairs x (ix1 n)).2 := by
  rw [pairs_eq, Ideal.argReduce_eq_reduce2, Host.reduce2_eq_foldl_fiber]
  have e0 : (constant S_ .f32 0x7F800000#32 : FVec Ideal S_ .f32) (Shape.Idx.first h_S_) = (⊤ : EReal) := ofBits_inf
  have e1 : constantI S_ 32 0#32 (Shape.Idx.first h_S_) = 0#32 := rfl
  rw [e0, e1]
  obtain ⟨h1, -, h3⟩ := foldl_least (reducer_argmin_f32_i32 (F := Ideal)) Le Le.refl Le.trans reducer_least id
    (Host.argReduceFiber (α := EReal) x (iotaInDim S16384x8192 32 1) reducesTo_S16384x8192_S16384_d1 (ix1 n)) ((⊤ : EReal), 0#32)
  simp only [id] at h1 h3
  generalize List.foldl (fun r x => reducer_argmin_f32_i32 (F := Ideal) r x) ((⊤ : EReal), 0#32)
    (Host.argReduceFiber (α := EReal) x (iotaInDim S16384x8192 32 1) reducesTo_S16384x8192_S16384_d1 (ix1 n)) = r at h1 h3
  have hy : ∀ k : Fin 8192, iotaInDim S16384x8192 32 1 (ix2 n k) = BitVec.ofNat 32 k.val := fun k => rfl
  have below : ∀ k : Fin 8192, Le r (x (ix2 n k), BitVec.ofNat 32 k.val) := fun k =>
    h3 _ ((mem_fiber _ _ _ _).mpr ⟨k, by rw [hy]⟩)
  obtain ⟨k, hk⟩ : ∃ k : Fin 8192, r = (x (ix2 n k), BitVec.ofNat 32 k.val) := by
    rcases h1 with h1 | ⟨p, hp, h1⟩
    · refine ⟨0, ?_⟩
      rcases below 0 with h | ⟨h, -⟩
      · rw [h1] at h
        exact absurd h not_top_lt
      · rw [h1] at h ⊢
        exact Prod.ext h rfl
    · obtain ⟨k, rfl⟩ := (mem_fiber _ _ _ _).mp hp
      exact ⟨k, by rw [h1, hy]⟩
  refine ⟨x (ix2 n k), ?_⟩
  show First _ 0 8192 _ r.2
  rw [hk]
  refine ⟨k, Nat.zero_le _, k.isLt, rfl, rfl, fun i _ _ => ?_⟩
  have := below i
  rw [hk] at this
  rcases this with h | ⟨h, h'⟩
  · exact .inl h
  · refine .inr ⟨h, ?_⟩
    simp only at h'
    rw [toInt_word (by omega), toInt_word (by omega)] at h'
    exact Int.ofNat_le.mp h'

/-- The second parts of a family of pairs. -/
def seconds (g : S16384.Idx → EReal × BitVec 32) : IVec S16384 32 := fun j => (g j).2

/-- The second parts, one by one, when the pair there has a known property. -/
theorem seconds_of (g : S16384.Idx → EReal × BitVec 32) (j : S16384.Idx) (P : BitVec 32 → Prop) (h : P (g j).2) :
    P (seconds g j) := h

/-- Rows whose entries are `f` have the first index of the smallest of `f`. -/
theorem seconds_first (x : FVec Ideal S16384x8192 .f32) (n : Fin 16384) (f : Fin 8192 → EReal) (hf : ∀ k, x (ix2 n k) = f k) :
    ∃ v, First f 0 8192 v (seconds (pairs x) (ix1 n)) := by
  have e : (fun k => x (ix2 n k)) = f := funext hf
  subst e
  exact seconds_of (pairs x) (ix1 n) (fun i => ∃ v, First (fun k => x (ix2 n k)) 0 8192 v i) (pairs_first x n)

/-- Over the reference's table: at every position the first index of the smallest squared distance. -/
theorem seconds_table (z : FVec Ideal S16x256x32x32 .f32) (w : FVec Ideal S8192x256 .f32) (b : Fin 16) (p : Fin 1024) :
    ∃ v, First (sqdist z w b p) 0 8192 v (seconds (pairs (table z w)) (ix1 (row b p))) :=
  seconds_first (table z w) (row b p) (sqdist z w b p) (table_apply z w b p)

end Cert.Proof.Ref

end
-- ==== Proof.Tail.lean ====
/-
  The operations both programs apply after the indices are known, segment by segment: over equal operands the kernel's
  host operations and the reference's leave equal results.
-/
module

public import proofs.«01_k».proof.Proof.RefRun
public import proofs.«01_k».proof.Proof.Gen.KernelIdeal.Launch
public import Idealize.ShloMosaic.PureOps.Ideal.Laws

@[expose] public section

noncomputable section

namespace Cert.Proof.Tail

open Idealize.ShloMosaic Idealize.ShloMosaic.TcCoe Idealize.SL.Sem
open Cert.KernelIdeal (S_ S16384 S16384x256 S8192x256 S8192 S16x256x32x32 S16x1x1024 S16x32x32)

/-- Every buffer of the kernel's program, and every buffer of the reference's. -/
abbrev KV := Valuation Cert.KernelIdeal.τ Cert.KernelIdeal.sig (Elt Ideal)
abbrev RV := Valuation Cert.ReferenceIdeal.τ Cert.ReferenceIdeal.sig (Elt Ideal)

/-- One buffer of the kernel's program, and one of the reference's. -/
abbrev kv (V : KV) (b : Ref Cert.KernelIdeal.sig .tc) : (Proc.devRef (τ := Cert.KernelIdeal.τ) .tc b).ty.Contents (Elt Ideal) := V (Proc.devRef .tc b)
abbrev rv (V : RV) (b : Ref Cert.ReferenceIdeal.sig .tc) : (Proc.devRef (τ := Cert.ReferenceIdeal.τ) .tc b).ty.Contents (Elt Ideal) := V (Proc.devRef .tc b)

/-- The square of a difference does not depend on its order, over the extended reals too: equal operands give the same
    difference, unequal ones opposite differences. -/
theorem sub_mul_sub_comm (a b : EReal) : (a - b) * (a - b) = (b - a) * (b - a) := by
  by_cases h : a = b
  · rw [h]
  · have e : -(a - b) = b - a := by
      rw [EReal.neg_sub, add_comm, ← sub_eq_add_neg]
      · by_contra hc
        rw [not_or, not_not, not_not] at hc
        exact h (hc.1.trans hc.2.symm)
      · by_contra hc
        rw [not_or, not_not, not_not] at hc
        exact h (hc.1.trans hc.2.symm)
    rw [← e, neg_mul_neg]

/-- The same, for arrays. -/
theorem sq_comm {s : Shape} (a b : FVec Ideal s .f32) : mulf (subf a b) (subf a b) = mulf (subf b a) (subf b a) :=
  funext fun i => sub_mul_sub_comm (a i) (b i)

set_option maxHeartbeats 4000000 in
/-- The rows taken from the codebook agree. -/
theorem take_eq (V : KV) (V' : RV)
    (hi : (kv V Cert.KernelIdeal.main_v16 : IVec S16384 32) = rv V' Cert.ReferenceIdeal.main_v16)
    (hw : (kv V Cert.KernelIdeal.main_arg1 : FVec Ideal S8192x256 .f32) = rv V' Cert.ReferenceIdeal.main_arg1) :
    (kv (StableHlo.after Cert.KernelIdeal.Gen.hostOps1_1 V) Cert.KernelIdeal.main_v17 : FVec Ideal S16384x256 .f32)
      = rv (StableHlo.after Ref.refTake V') Cert.ReferenceIdeal.main_v17 := by
  unfold kv rv at *
  dsimp only [Ref.refTake, Cert.KernelIdeal.Gen.hostOps1_1]
  after_results_simp
  rw [hi, hw]
  rfl

section loss
variable (V : KV) (V' : RV)
    (hq : (kv V Cert.KernelIdeal.main_v17 : FVec Ideal S16384x256 .f32) = rv V' Cert.ReferenceIdeal.main_v17)
    (hz : (kv V Cert.KernelIdeal.main_arg0 : FVec Ideal S16x256x32x32 .f32) = rv V' Cert.ReferenceIdeal.main_arg0)
include hq hz

set_option maxHeartbeats 4000000 in
/-- The straight-through results agree. -/
theorem st_eq : (kv (StableHlo.after Cert.KernelIdeal.Gen.hostOps1_2 V) Cert.KernelIdeal.main_v26 : FVec Ideal S16x256x32x32 .f32)
      = rv (StableHlo.after Ref.refLoss V') Cert.ReferenceIdeal.main_v30 := by
  unfold kv rv at *
  dsimp only [Ref.refLoss, Cert.KernelIdeal.Gen.hostOps1_2]
  after_results_simp
  rw [hq, hz]
  rfl

set_option maxHeartbeats 4000000 in
/-- The codebook losses agree. -/
theorem vq_eq : (kv (StableHlo.after Cert.KernelIdeal.Gen.hostOps1_2 V) Cert.KernelIdeal.main_v23 : FVec Ideal S_ .f32)
      = rv (StableHlo.after Ref.refLoss V') Cert.ReferenceIdeal.main_v23 := by
  unfold kv rv at *
  dsimp only [Ref.refLoss, Cert.KernelIdeal.Gen.hostOps1_2]
  after_results_simp
  rw [hq, hz]
  rfl

set_option maxHeartbeats 4000000 in
/-- The commitment losses agree: a quarter of the mean square of the differences taken either way round. -/
theorem commit_eq : (kv (StableHlo.after Cert.KernelIdeal.Gen.hostOps1_2 V) Cert.KernelIdeal.main_v24 : FVec Ideal S_ .f32)
      = rv (StableHlo.after Ref.refLoss V') Cert.ReferenceIdeal.main_v28 := by
  unfold kv rv at *
  dsimp only [Ref.refLoss, Cert.KernelIdeal.Gen.hostOps1_2]
  after_results_simp
  rw [hq, hz, sq_comm]
  rfl
end loss

set_option maxHeartbeats 4000000 in
/-- The zero counts agree. -/
theorem zeros_eq (V : KV) (V' : RV) : (kv (StableHlo.after Cert.KernelIdeal.Gen.hostOps1_2 V) Cert.KernelIdeal.main_v27 : IVec S8192 32)
      = rv (StableHlo.after Ref.refLoss V') Cert.ReferenceIdeal.main_v31 := by
  unfold kv rv at *
  dsimp only [Ref.refLoss, Cert.KernelIdeal.Gen.hostOps1_2]
  after_results_simp

set_option maxHeartbeats 4000000 in
/-- The lower bounds of the clipping agree. -/
theorem low_eq (V : KV) (V' : RV) : (kv (StableHlo.after Cert.KernelIdeal.Gen.hostOps1_2 V) Cert.KernelIdeal.main_c_5 : IVec S_ 32)
      = rv (StableHlo.after Ref.refLoss V') Cert.ReferenceIdeal.main_c_7 := by
  unfold kv rv at *
  dsimp only [Ref.refLoss, Cert.KernelIdeal.Gen.hostOps1_2]
  after_results_simp

set_option maxHeartbeats 4000000 in
/-- The clipped indices agree. -/
theorem clip_eq (V : KV) (V' : RV)
    (hl : (kv V Cert.KernelIdeal.main_c_5 : IVec S_ 32) = rv V' Cert.ReferenceIdeal.main_c_7)
    (hi : (kv V Cert.KernelIdeal.main_v16 : IVec S16384 32) = rv V' Cert.ReferenceIdeal.main_v16) :
    (kv (StableHlo.after Cert.KernelIdeal.Gen.hostOps1_3 V) Cert.KernelIdeal.main_v28 : IVec S16384 32)
      = rv (StableHlo.after Ref.refClip V') Cert.ReferenceIdeal.main_v32 := by
  unfold kv rv at *
  dsimp only [Ref.refClip, Cert.KernelIdeal.Gen.hostOps1_3]
  after_results_simp
  rw [hi, hl]

section stats
variable (V : KV) (V' : RV)
    (hi : (kv V Cert.KernelIdeal.main_v28 : IVec S16384 32) = rv V' Cert.ReferenceIdeal.main_v32)
    (hc : (kv V Cert.KernelIdeal.main_v27 : IVec S8192 32) = rv V' Cert.ReferenceIdeal.main_v31)
include hi hc

set_option maxHeartbeats 4000000 in
/-- The shares of the codes in use agree. -/
theorem usage_eq : (kv (StableHlo.after Cert.KernelIdeal.Gen.hostOps1_4 V) Cert.KernelIdeal.main_v42 : FVec Ideal S_ .f32)
      = rv (StableHlo.after (Ref.refCount ++ Ref.refStats) V') Cert.ReferenceIdeal.main_v46 := by
  unfold kv rv at *
  dsimp only [Ref.refCount, Ref.refStats, Cert.KernelIdeal.Gen.hostOps1_4, List.cons_append, List.nil_append]
  after_results_simp
  rw [hi, hc]
  rfl

set_option maxHeartbeats 4000000 in
/-- The perplexities agree. -/
theorem perp_eq : (kv (StableHlo.after Cert.KernelIdeal.Gen.hostOps1_4 V) Cert.KernelIdeal.main_v52 : FVec Ideal S_ .f32)
      = rv (StableHlo.after (Ref.refCount ++ Ref.refStats) V') Cert.ReferenceIdeal.main_v56 := by
  unfold kv rv at *
  dsimp only [Ref.refCount, Ref.refStats, Cert.KernelIdeal.Gen.hostOps1_4, List.cons_append, List.nil_append]
  after_results_simp
  rw [hi, hc]
  rfl
end stats

set_option maxHeartbeats 4000000 in
/-- The reference's index result is its index list reshaped. -/
theorem ref_idx (V' : RV) : (rv (StableHlo.after (Ref.refCount ++ Ref.refStats) V') Cert.ReferenceIdeal.main_v57 : IVec S16x32x32 32)
      = shapeCast S16x32x32 (rv V' Cert.ReferenceIdeal.main_v16 : IVec S16384 32) Cert.ReferenceIdeal.Gen.shapeCasts_S16384_S16x32x32 := by
  unfold rv
  dsimp only [Ref.refCount, Ref.refStats, List.cons_append, List.nil_append]
  after_results_simp
  rfl

/-- The kernel's two readings of its result array. -/
theorem ker_idx (V : KV) : (kv (StableHlo.after Cert.KernelIdeal.Gen.hostOps1 V) Cert.KernelIdeal.main_v15 : IVec S16x32x32 32)
      = shapeCast S16x32x32 (kv V Cert.KernelIdeal.main_v14 : IVec S16x1x1024 32) Cert.KernelIdeal.Gen.shapeCasts_S16x1x1024_S16x32x32 := by
  unfold kv
  dsimp only [Cert.KernelIdeal.Gen.hostOps1]
  after_results_simp
  rfl
theorem ker_flat (V : KV) : (kv (StableHlo.after Cert.KernelIdeal.Gen.hostOps1 V) Cert.KernelIdeal.main_v16 : IVec S16384 32)
      = shapeCast S16384 (kv V Cert.KernelIdeal.main_v14 : IVec S16x1x1024 32) Cert.KernelIdeal.Gen.shapeCasts_S16x1x1024_S16384 := by
  unfold kv
  dsimp only [Cert.KernelIdeal.Gen.hostOps1]
  after_results_simp
  rfl

end Cert.Proof.Tail

end
-- ==== Proof.Join.lean ====
/-
  The two runs joined: both programs' buffers, stage by stage, the index lists equal over finite codes, and with them the
  six results.
-/
module

public import proofs.«01_k».proof.Proof.KerDist
public import proofs.«01_k».proof.Proof.RefArgmin
public import proofs.«01_k».proof.Proof.Tail

@[expose] public section

noncomputable section

namespace Cert.Proof.Join

open Idealize.ShloMosaic hiding ix1 ix2 ix3 ix4
open Idealize.ShloMosaic.TcCoe Idealize.ShloMosaic.ValueIdx Idealize.SL.Sem
open Cert.Proof.Argmin Cert.Proof.Dist Cert.Proof.Tail

/-! ## The kernel's buffers after each stage -/

section kernel
open Cert.KernelIdeal Cert.KernelIdeal.Gen
variable (m : (ℓ : Loc nD τ sig) → Buf (Elt Ideal) ℓ) (c : Dev nD)

/-- After the region; after the two readings of its result; after the rows are taken; after the losses; after the clipping;
    at the end. -/
def K0 : KV := Pipeline.withArrays spec0 c (V0 m c) fun w => (dats m 0 c).arrAt w cfg0.N
def K1 : KV := StableHlo.after hostOps1 (K0 m c)
def K2 : KV := StableHlo.after hostOps1_1 (K1 m c)
def K3 : KV := StableHlo.after hostOps1_2 (K2 m c)
def K4 : KV := StableHlo.after hostOps1_3 (K3 m c)
def K5 : KV := StableHlo.after hostOps1_4 (K4 m c)

/-- What the lines after the region leave is the last stage. -/
theorem tail_K5 (b : Ref sig .tc) :
    Pipeline.afterTail₀ cfgs (dats m) 0 (V0 m) [hostOps1, hostOps1_1, hostOps1_2, hostOps1_3, hostOps1_4] c b = kv (K5 m c) b := by
  unfold Pipeline.afterTail₀ K5 K4 K3 K2 K1 K0
  rw [List.flatten_cons, List.flatten_cons, List.flatten_cons, List.flatten_cons, List.flatten_cons, List.flatten_nil, List.append_nil,
    StableHlo.after_append, StableHlo.after_append, StableHlo.after_append, StableHlo.after_append]

/-- What a stage does not write it keeps. -/
theorem K1_keeps {b : Ref sig .tc} (h : b ∉ hostOps1_W) : kv (K1 m c) b = kv (K0 m c) b :=
  StableHlo.after_of_writes_sub (r := b) hostOps1 _ hostOps1_writes h
theorem K2_keeps {b : Ref sig .tc} (h : b ∉ hostOps1_1_W) : kv (K2 m c) b = kv (K1 m c) b :=
  StableHlo.after_of_writes_sub (r := b) hostOps1_1 _ hostOps1_1_writes h
theorem K3_keeps {b : Ref sig .tc} (h : b ∉ hostOps1_2_W) : kv (K3 m c) b = kv (K2 m c) b :=
  StableHlo.after_of_writes_sub (r := b) hostOps1_2 _ hostOps1_2_writes h
theorem K4_keeps {b : Ref sig .tc} (h : b ∉ hostOps1_3_W) : kv (K4 m c) b = kv (K3 m c) b :=
  StableHlo.after_of_writes_sub (r := b) hostOps1_3 _ hostOps1_3_writes h
theorem K5_keeps {b : Ref sig .tc} (h : b ∉ hostOps1_4_W) : kv (K5 m c) b = kv (K4 m c) b :=
  StableHlo.after_of_writes_sub (r := b) hostOps1_4 _ hostOps1_4_writes h

/-- The region leaves the arguments as launched. -/
theorem K0_arg0 : kv (K0 m c) main_arg0 = m ((c : Thread nD τ).loc main_arg0) :=
  (Pipeline.withArrays_of_ne _ c (V0 m c) _ main_arg0 (by exact (by decide : ∀ w, Pipeline.arrRef spec0 w ≠ main_arg0))).trans (V_main_arg0 m c)
theorem K0_arg1 : kv (K0 m c) main_arg1 = m ((c : Thread nD τ).loc main_arg1) :=
  (Pipeline.withArrays_of_ne _ c (V0 m c) _ main_arg1 (by exact (by decide : ∀ w, Pipeline.arrRef spec0 w ≠ main_arg1))).trans (V_main_arg1 m c)
theorem K1_arg1 : kv (K1 m c) main_arg1 = m ((c : Thread nD τ).loc main_arg1) := (K1_keeps m c (by decide)).trans (K0_arg1 m c)
theorem K2_arg0 : kv (K2 m c) main_arg0 = m ((c : Thread nD τ).loc main_arg0) :=
  ((K2_keeps m c (by decide)).trans (K1_keeps m c (by decide))).trans (K0_arg0 m c)

/-- The region leaves its result array as the points' blocks wrote it. -/
theorem K0_out : (kv (K0 m c) main_v14 : IVec S16x1x1024 32) = (dats m 0 c).arrAt 5 cfg0.N :=
  Pipeline.withArrays_arr spec0 (by decide) c (V0 m c) (fun w => (dats m 0 c).arrAt w cfg0.N) 5

end kernel

/-! ## The reference's buffers after each stage -/

section reference
open Cert.ReferenceIdeal Cert.ReferenceIdeal.Gen Cert.Proof.Ref
variable (m' : (ℓ : Loc nD τ sig) → Buf (Elt Ideal) ℓ) (c : Dev nD)

/-- At the launch; after the distances; after the indices; after the rows are taken; after the losses; after the clipping; at
    the end. -/
def R0 : RV := StableHlo.launchContents m' c
def R1 : RV := StableHlo.after refDist (R0 m' c)
def R2 : RV := StableHlo.after refArgmin (R1 m' c)
def R3 : RV := StableHlo.after refTake (R2 m' c)
def R4 : RV := StableHlo.after refLoss (R3 m' c)
def R5 : RV := StableHlo.after refClip (R4 m' c)
def R6 : RV := StableHlo.after (refCount ++ refStats) (R5 m' c)

theorem ops_R6 (b : Ref sig .tc) : StableHlo.after ops (StableHlo.launchContents m' c) (Proc.devRef .tc b) = rv (R6 m' c) b := by
  unfold R6 R5 R4 R3 R2 R1 R0
  simp only [ops, StableHlo.after_append]

/-- What a stage does not write it keeps. -/
theorem R1_keeps {b : Ref sig .tc} (h : b ∉ refDist_W) : rv (R1 m' c) b = rv (R0 m' c) b :=
  StableHlo.after_of_writes_sub (r := b) refDist _ refDist_writes h
theorem R2_keeps {b : Ref sig .tc} (h : b ∉ refArgmin_W) : rv (R2 m' c) b = rv (R1 m' c) b :=
  StableHlo.after_of_writes_sub (r := b) refArgmin _ refArgmin_writes h
theorem R3_keeps {b : Ref sig .tc} (h : b ∉ refTake_W) : rv (R3 m' c) b = rv (R2 m' c) b :=
  StableHlo.after_of_writes_sub (r := b) refTake _ refTake_writes h
theorem R4_keeps {b : Ref sig .tc} (h : b ∉ refLoss_W) : rv (R4 m' c) b = rv (R3 m' c) b :=
  StableHlo.after_of_writes_sub (r := b) refLoss _ refLoss_writes h
theorem R5_keeps {b : Ref sig .tc} (h : b ∉ refClip_W) : rv (R5 m' c) b = rv (R4 m' c) b :=
  StableHlo.after_of_writes_sub (r := b) refClip _ refClip_writes h
theorem R6_keeps {b : Ref sig .tc} (h : b ∉ refCount_W) (h' : b ∉ refStats_W) : rv (R6 m' c) b = rv (R5 m' c) b := by
  unfold R6
  rw [StableHlo.after_append]
  exact (StableHlo.after_of_writes_sub (r := b) refStats _ refStats_writes h').trans
    (StableHlo.after_of_writes_sub (r := b) refCount _ refCount_writes h)

theorem R2_arg1 : rv (R2 m' c) main_arg1 = m' ((c : Thread nD τ).loc main_arg1) :=
  (R2_keeps m' c (by decide)).trans (R1_keeps m' c (by decide))
theorem R3_arg0 : rv (R3 m' c) main_arg0 = m' ((c : Thread nD τ).loc main_arg0) :=
  (R3_keeps m' c (by decide)).trans ((R2_keeps m' c (by decide)).trans (R1_keeps m' c (by decide)))

/-- The reference's index list is the second parts of the row reduction of its distances. -/
theorem R2_idx : (rv (R2 m' c) main_v16 : IVec S16384 32) = seconds (pairs (rv (R1 m' c) main_v15)) := by
  rw [pairs_eq]
  unfold R2 rv
  dsimp only [refArgmin]
  after_results_simp
  rfl

/-- Its distances are the table over its arguments. -/
theorem R1_table : (rv (R1 m' c) main_v15 : FVec Ideal S16384x8192 .f32)
    = table (m' ((c : Thread nD τ).loc main_arg0)) (m' ((c : Thread nD τ).loc main_arg1)) :=
  after_table (R0 m' c)

/-- So the index list is that of the table. -/
theorem R2_table : (rv (R2 m' c) main_v16 : IVec S16384 32)
    = seconds (pairs (table (m' ((c : Thread nD τ).loc main_arg0)) (m' ((c : Thread nD τ).loc main_arg1)))) := by
  rw [R2_idx, R1_table]

/-- At every position it is the first index of the smallest squared distance. -/
theorem R2_first (b : Fin 16) (p : Fin 1024) :
    ∃ v, First (sqdist (m' ((c : Thread nD τ).loc main_arg0)) (m' ((c : Thread nD τ).loc main_arg1)) b p) 0 8192 v
      ((rv (R2 m' c) main_v16 : IVec S16384 32) (ix1 (row b p))) := by
  rw [R2_table]
  exact seconds_table _ _ b p

end reference

/-! ## Both -/

section both
open Cert.KernelIdeal (S_ S16384 S16384x256 S8192x256 S8192 S16x256x32x32 S16x1x1024 S16x32x32)
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)
  (hz : m' ((c.tc : Thread Cert.ReferenceIdeal.nD Cert.ReferenceIdeal.τ).loc Cert.ReferenceIdeal.main_arg0)
    = m ((c.tc : Thread Cert.KernelIdeal.nD Cert.KernelIdeal.τ).loc Cert.KernelIdeal.main_arg0))
  (hw : m' ((c.tc : Thread Cert.ReferenceIdeal.nD Cert.ReferenceIdeal.τ).loc Cert.ReferenceIdeal.main_arg1)
    = m ((c.tc : Thread Cert.KernelIdeal.nD Cert.KernelIdeal.τ).loc Cert.KernelIdeal.main_arg1))
  (hW : ∀ i, Block.argW m c i ≠ ⊤ ∧ Block.argW m c i ≠ ⊥)
include hz hw hW

/-- The index lists agree. -/
theorem flat_eq : (kv (K1 m c) Cert.KernelIdeal.main_v16 : IVec S16384 32) = rv (R2 m' c) Cert.ReferenceIdeal.main_v16 := by
  funext j
  obtain ⟨b, p, rfl⟩ : ∃ (b : Fin 16) (p : Fin 1024), j = ix1 (Ref.row b p) := by
    have hj : (j 0).val < 16384 := (j 0).isLt
    refine ⟨⟨(j 0).val / 1024, by omega⟩, ⟨(j 0).val % 1024, by omega⟩, funext fun a => Fin.ext ?_⟩
    match a with
    | ⟨0, _⟩ => show (j 0).val = (j 0).val / 1024 * 1024 + (j 0).val % 1024; omega
  obtain ⟨v, hk⟩ := Block.first_dist m c hW b p
  obtain ⟨v', hr⟩ := R2_first m' c b p
  rw [hz, hw] at hr
  have e : (kv (K1 m c) Cert.KernelIdeal.main_v16 : IVec S16384 32) (ix1 (Ref.row b p))
      = ((Cert.KernelIdeal.Gen.dats m 0 c).arrAt 5 Cert.KernelIdeal.cfg0.N : IVec S16x1x1024 32) (ix3 b 0 p) := by
    refine (congrFun (ker_flat (K0 m c)) _).trans ?_
    rw [K0_out]
    refine shapeCast_apply _ _ _ (ix3 b 0 p) ?_
    rw [Shape.rowMajor_val_three, Shape.rowMajor_val_one]
    show (b.val * 1 + 0) * 1024 + p.val = b.val * 1024 + p.val
    omega
  rw [e]
  exact hk.unique hr

/-- The rows taken agree. -/
theorem rows_eq : (kv (K2 m c) Cert.KernelIdeal.main_v17 : FVec Ideal S16384x256 .f32) = rv (R3 m' c) Cert.ReferenceIdeal.main_v17 :=
  take_eq (K1 m c) (R2 m' c) (flat_eq m m' c hz hw hW) ((K1_arg1 m c).trans (hw.symm.trans (R2_arg1 m' c).symm))

omit hw hW in
/-- So do the images at the losses. -/
theorem images_eq : (kv (K2 m c) Cert.KernelIdeal.main_arg0 : FVec Ideal S16x256x32x32 .f32) = rv (R3 m' c) Cert.ReferenceIdeal.main_arg0 :=
  (K2_arg0 m c).trans (hz.symm.trans (R3_arg0 m' c).symm)

/-- Result 1, the straight-through codes. -/
theorem result1 : (kv (K5 m c) Cert.KernelIdeal.main_v26 : FVec Ideal S16x256x32x32 .f32) = rv (R6 m' c) Cert.ReferenceIdeal.main_v30 :=
  ((K5_keeps m c (by decide)).trans (K4_keeps m c (by decide))).trans
    ((st_eq (K2 m c) (R3 m' c) (rows_eq m m' c hz hw hW) (images_eq m m' c hz)).trans
      ((R6_keeps m' c (by decide) (by decide)).trans (R5_keeps m' c (by decide))).symm)

/-- Result 2, the codebook loss. -/
theorem result2 : (kv (K5 m c) Cert.KernelIdeal.main_v23 : FVec Ideal S_ .f32) = rv (R6 m' c) Cert.ReferenceIdeal.main_v23 :=
  ((K5_keeps m c (by decide)).trans (K4_keeps m c (by decide))).trans
    ((vq_eq (K2 m c) (R3 m' c) (rows_eq m m' c hz hw hW) (images_eq m m' c hz)).trans
      ((R6_keeps m' c (by decide) (by decide)).trans (R5_keeps m' c (by decide))).symm)

/-- Result 3, the commitment loss. -/
theorem result3 : (kv (K5 m c) Cert.KernelIdeal.main_v24 : FVec Ideal S_ .f32) = rv (R6 m' c) Cert.ReferenceIdeal.main_v28 :=
  ((K5_keeps m c (by decide)).trans (K4_keeps m c (by decide))).trans
    ((commit_eq (K2 m c) (R3 m' c) (rows_eq m m' c hz hw hW) (images_eq m m' c hz)).trans
      ((R6_keeps m' c (by decide) (by decide)).trans (R5_keeps m' c (by decide))).symm)

/-- Result 4, the indices. -/
theorem result4 : (kv (K5 m c) Cert.KernelIdeal.main_v15 : IVec S16x32x32 32) = rv (R6 m' c) Cert.ReferenceIdeal.main_v57 := by
  have e1 : (kv (K5 m c) Cert.KernelIdeal.main_v15 : IVec S16x32x32 32) = kv (K1 m c) Cert.KernelIdeal.main_v15 :=
    (K5_keeps m c (by decide)).trans ((K4_keeps m c (by decide)).trans ((K3_keeps m c (by decide)).trans (K2_keeps m c (by decide))))
  have e2 : (rv (R5 m' c) Cert.ReferenceIdeal.main_v16 : IVec S16384 32) = rv (R2 m' c) Cert.ReferenceIdeal.main_v16 :=
    (R5_keeps m' c (by decide)).trans ((R4_keeps m' c (by decide)).trans (R3_keeps m' c (by decide)))
  have e3 := (flat_eq m m' c hz hw hW).symm.trans (ker_flat (K0 m c))
  refine e1.trans ((ker_idx (K0 m c)).trans (Eq.symm ((ref_idx (R5 m' c)).trans ?_)))
  rw [e2, e3]
  funext j
  refine (shapeCast_apply _ _ j (S16384.rowMajor.symm ((S16x32x32.rowMajor j).cast (by decide))) (by rw [Equiv.apply_symm_apply]; rfl)).trans ?_
  refine (shapeCast_apply _ _ _ (S16x1x1024.rowMajor.symm ((S16x32x32.rowMajor j).cast (by decide)))
    (by rw [Equiv.apply_symm_apply, Equiv.apply_symm_apply]; rfl)).trans ?_
  exact (shapeCast_apply _ _ j (S16x1x1024.rowMajor.symm ((S16x32x32.rowMajor j).cast (by decide))) (by rw [Equiv.apply_symm_apply]; rfl)).symm

/-- The clipped index lists agree. -/
theorem clipped_eq : (kv (K4 m c) Cert.KernelIdeal.main_v28 : IVec S16384 32) = rv (R5 m' c) Cert.ReferenceIdeal.main_v32 :=
  clip_eq (K3 m c) (R4 m' c) (low_eq (K2 m c) (R3 m' c))
    (((K3_keeps m c (by decide)).trans (K2_keeps m c (by decide))).trans
      ((flat_eq m m' c hz hw hW).trans ((R4_keeps m' c (by decide)).trans (R3_keeps m' c (by decide))).symm))

omit hz hw hW in
/-- The zero counts agree. -/
theorem counts_eq : (kv (K4 m c) Cert.KernelIdeal.main_v27 : IVec S8192 32) = rv (R5 m' c) Cert.ReferenceIdeal.main_v31 :=
  (K4_keeps m c (by decide)).trans ((zeros_eq (K2 m c) (R3 m' c)).trans (R5_keeps m' c (by decide)).symm)

/-- Result 5, the share of the codes in use. -/
theorem result5 : (kv (K5 m c) Cert.KernelIdeal.main_v42 : FVec Ideal S_ .f32) = rv (R6 m' c) Cert.ReferenceIdeal.main_v46 :=
  usage_eq (K4 m c) (R5 m' c) (clipped_eq m m' c hz hw hW) (counts_eq m m' c)

/-- Result 6, the perplexity. -/
theorem result6 : (kv (K5 m c) Cert.KernelIdeal.main_v52 : FVec Ideal S_ .f32) = rv (R6 m' c) Cert.ReferenceIdeal.main_v56 :=
  perp_eq (K4 m c) (R5 m' c) (clipped_eq m m' c hz hw hW) (counts_eq m m' c)

end both

end Cert.Proof.Join

end
-- ==== Proof.Results.lean ====
/-
  The two programs at the ideal instance end with equal results: each run's buffers are the last stage of its side
  (Join.lean), and the six results of the two last stages are equal over finite codes.
-/
module

public import proofs.«01_k».proof.Defs
public import proofs.«01_k».proof.Proof.Join

@[expose] public section

noncomputable section

namespace Cert.Proof.Results

open Idealize.ShloMosaic hiding ix1 ix2 ix3 ix4
open Idealize.ShloMosaic.TcCoe Idealize.SL.Sem
open Cert.Proof.Argmin Cert.Proof.Block Cert.Proof.Tail Cert.Proof.Join

/-- The side condition the precondition states. -/
theorem preFacts : Cert.Pre_finite_codes.Facts := ⟨by decide⟩

/-- A real below plus infinity in absolute value is neither infinity. -/
theorem finite_of_abs {a : EReal} (h : max a (-a) < ⊤) : a ≠ ⊤ ∧ a ≠ ⊥ := by
  constructor
  · rintro rfl
    simp at h
  · rintro rfl
    simp at h

section
open Cert.KernelIdeal
variable (m : (ℓ : Loc nD τ sig) → Buf (Elt Ideal) ℓ)

/-- Under the precondition no entry of the codebook is infinite. -/
theorem codes_finite (hP : Cert.Pre_KernelIdeal_finite_codes (hPre_finite_codes := preFacts) m) (c : Dev nD)
    (i : S8192x256.Idx) : argW m c i ≠ ⊤ ∧ argW m c i ≠ ⊥ := by
  have h := congrFun (hP c) i
  have h' : BitVec.ofBool (decide (max (argW m c i) (-(argW m c i)) < Ideal.ofBits .f32 0x7F800000#32)) = 1#1 := h
  rw [ofBits_inf] at h'
  refine finite_of_abs ?_
  by_contra hn
  rw [decide_eq_false hn] at h'
  exact absurd h' (by decide)

end

/-- Every run of the kernel leaves its six results at the last stage's buffers and its arguments as launched. -/
theorem kernel_run (m : (ℓ : Loc Cert.KernelIdeal.nD Cert.KernelIdeal.τ Cert.KernelIdeal.sig) → Buf (Elt Ideal) ℓ)
    (g : Dev Cert.KernelIdeal.nD → PrngReg) :
    θ_run (Cert.KernelIdeal.defs (F := Ideal)) (onTc (τ := Cert.KernelIdeal.τ) (Cert.KernelIdeal.main (F := Ideal)))
      ⟨m, fun _ => 0, g⟩ (fun r => ∀ c : Dev Cert.KernelIdeal.nD,
        r.2.mem ((c.tc : Thread Cert.KernelIdeal.nD Cert.KernelIdeal.τ).loc Cert.KernelIdeal.main_v26) = kv (K5 m c) Cert.KernelIdeal.main_v26
        ∧ r.2.mem ((c.tc : Thread Cert.KernelIdeal.nD Cert.KernelIdeal.τ).loc Cert.KernelIdeal.main_v23) = kv (K5 m c) Cert.KernelIdeal.main_v23
        ∧ r.2.mem ((c.tc : Thread Cert.KernelIdeal.nD Cert.KernelIdeal.τ).loc Cert.KernelIdeal.main_v24) = kv (K5 m c) Cert.KernelIdeal.main_v24
        ∧ r.2.mem ((c.tc : Thread Cert.KernelIdeal.nD Cert.KernelIdeal.τ).loc Cert.KernelIdeal.main_v15) = kv (K5 m c) Cert.KernelIdeal.main_v15
        ∧ r.2.mem ((c.tc : Thread Cert.KernelIdeal.nD Cert.KernelIdeal.τ).loc Cert.KernelIdeal.main_v42) = kv (K5 m c) Cert.KernelIdeal.main_v42
        ∧ r.2.mem ((c.tc : Thread Cert.KernelIdeal.nD Cert.KernelIdeal.τ).loc Cert.KernelIdeal.main_v52) = kv (K5 m c) Cert.KernelIdeal.main_v52
        ∧ r.2.mem ((c.tc : Thread Cert.KernelIdeal.nD Cert.KernelIdeal.τ).loc Cert.KernelIdeal.main_arg0)
            = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1)
            = m ((c.tc : Thread Cert.KernelIdeal.nD Cert.KernelIdeal.τ).loc Cert.KernelIdeal.main_arg1)) :=
  (θ_run _ _ _).mono (fun r h c =>
    ⟨((h c).2 Cert.KernelIdeal.main_v26 (Pipeline.mem_restRefs_of _ (by decide) (by decide))).trans (tail_K5 m c _),
     ((h c).2 Cert.KernelIdeal.main_v23 (Pipeline.mem_restRefs_of _ (by decide) (by decide))).trans (tail_K5 m c _),
     ((h c).2 Cert.KernelIdeal.main_v24 (Pipeline.mem_restRefs_of _ (by decide) (by decide))).trans (tail_K5 m c _),
     ((h c).2 Cert.KernelIdeal.main_v15 (Pipeline.mem_restRefs_of _ (by decide) (by decide))).trans (tail_K5 m c _),
     ((h c).2 Cert.KernelIdeal.main_v42 (Pipeline.mem_restRefs_of _ (by decide) (by decide))).trans (tail_K5 m c _),
     ((h c).2 Cert.KernelIdeal.main_v52 (Pipeline.mem_restRefs_of _ (by decide) (by decide))).trans (tail_K5 m c _),
     ((h c).2 Cert.KernelIdeal.main_arg0 (Pipeline.mem_restRefs_of _ (by decide) (by decide))).trans
       (Cert.KernelIdeal.Gen.W_main_arg0 m (Cert.KernelIdeal.Gen.dats m) c),
     ((h c).2 Cert.KernelIdeal.main_arg1 (Pipeline.mem_restRefs_of _ (by decide) (by decide))).trans
       (Cert.KernelIdeal.Gen.W_main_arg1 m (Cert.KernelIdeal.Gen.dats m) c)⟩)
    (Cert.KernelIdeal.Gen.run_main m g)

/-- Kernel and reference, from memories agreeing on the arguments with a finite codebook, both end, with equal results and
    the arguments unchanged. -/
theorem algebraic : Cert.algebraic_KernelIdeal_ReferenceIdeal_pre_finite_codes (hKernelIdeal := Cert.KernelIdeal.Gen.facts)
    (hReferenceIdeal := Cert.ReferenceIdeal.Gen.facts) (hPre_finite_codes := preFacts) := by
  intro m g m' g' hP hA
  have hW := fun c => codes_finite m hP c
  refine ⟨fun c => kv (K5 m c) Cert.KernelIdeal.main_v26, fun c => kv (K5 m c) Cert.KernelIdeal.main_v23,
    fun c => kv (K5 m c) Cert.KernelIdeal.main_v24, fun c => kv (K5 m c) Cert.KernelIdeal.main_v15,
    fun c => kv (K5 m c) Cert.KernelIdeal.main_v42, fun c => kv (K5 m c) Cert.KernelIdeal.main_v52, kernel_run m g, ?_⟩
  exact (θ_run _ _ _).mono (fun r h c =>
    ⟨(h c Cert.ReferenceIdeal.main_v30).trans ((ops_R6 m' c _).trans (result1 m m' c (hA c).1 (hA c).2 (hW c)).symm),
     (h c Cert.ReferenceIdeal.main_v23).trans ((ops_R6 m' c _).trans (result2 m m' c (hA c).1 (hA c).2 (hW c)).symm),
     (h c Cert.ReferenceIdeal.main_v28).trans ((ops_R6 m' c _).trans (result3 m m' c (hA c).1 (hA c).2 (hW c)).symm),
     (h c Cert.ReferenceIdeal.main_v57).trans ((ops_R6 m' c _).trans (result4 m m' c (hA c).1 (hA c).2 (hW c)).symm),
     (h c Cert.ReferenceIdeal.main_v46).trans ((ops_R6 m' c _).trans (result5 m m' c (hA c).1 (hA c).2 (hW c)).symm),
     (h c Cert.ReferenceIdeal.main_v56).trans ((ops_R6 m' c _).trans (result6 m m' c (hA c).1 (hA c).2 (hW c)).symm),
     (h c Cert.ReferenceIdeal.main_arg0).trans (Cert.Proof.Ref.keeps _ (by decide)),
     (h c Cert.ReferenceIdeal.main_arg1).trans (Cert.Proof.Ref.keeps _ (by decide))⟩)
    (Cert.Proof.Ref.run_ops m' g')

end Cert.Proof.Results

end
-- ==== Proof.lean ====
/-
  The certificate's claims. The frames of the kernel and of the idealized kernel are the generated ones; the reference's
  frame is Proof/RefRun.lean's; nothing was rewritten by the ideal pass; the equality of the results is Proof/Results.lean's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.RefRun
public import proofs.«01_k».proof.Proof.Results
public import Idealize.ShloMosaic.Adequacy
public import Idealize.ShloMosaic.Init

@[expose] public section

noncomputable section

namespace Cert.Proof

open Idealize.ShloMosaic Idealize.SL.Sem Cert.Kernel

/-- Every claim of the certificate: the three frames (the idealized programs' also under the precondition), that the
    idealization rewrote nothing, and that over the reals the kernel and the reference have equal results. -/
theorem claim : Cert.Claim :=
  ⟨Cert.Kernel.Gen.facts, Cert.KernelIdeal.Gen.facts, Cert.ReferenceIdeal.Gen.facts, Cert.Proof.Results.preFacts,
    fun m ρ _ => Cert.Kernel.Gen.frame m ρ, fun m ρ _ => Cert.KernelIdeal.Gen.frame m ρ,
    fun m ρ _ => Cert.KernelIdeal.Gen.frame m ρ, fun m ρ _ => Cert.Proof.Ref.frame m ρ,
    fun m ρ _ => Cert.Proof.Ref.frame m ρ, trivial, Cert.Proof.Results.algebraic⟩

end Cert.Proof

end
